-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_weights [hPre_finite_weights : Cert.Pre_finite_weights.Facts] (m : (ℓ : Loc Cert.KernelIdeal.nD Cert.KernelIdeal.τ Cert.KernelIdeal.sig) → Buf (Elt Ideal) ℓ) : Prop :=
  ∀ c : Dev Cert.KernelIdeal.nD,
    (Cert.Pre_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_weights [hPre_finite_weights : Cert.Pre_finite_weights.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_weights [hKernelIdeal : Cert.KernelIdeal.Facts] [hPre_finite_weights : Cert.Pre_finite_weights.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_weights m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_weights [hReferenceIdeal : Cert.ReferenceIdeal.Facts] [hPre_finite_weights : Cert.Pre_finite_weights.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_weights m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite_weights [hKernelIdeal : Cert.KernelIdeal.Facts] [hReferenceIdeal : Cert.ReferenceIdeal.Facts] [hPre_finite_weights : Cert.Pre_finite_weights.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_weights m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_weights : Cert.Pre_finite_weights.Facts),
    quiescent_Kernel (hKernel := hKernel)
    ∧ quiescent_KernelIdeal (hKernelIdeal := hKernelIdeal)
    ∧ quiescent_KernelIdeal_pre_finite_weights (hKernelIdeal := hKernelIdeal) (hPre_finite_weights := hPre_finite_weights)
    ∧ quiescent_ReferenceIdeal (hReferenceIdeal := hReferenceIdeal)
    ∧ quiescent_ReferenceIdeal_pre_finite_weights (hReferenceIdeal := hReferenceIdeal) (hPre_finite_weights := hPre_finite_weights)
    ∧ preserves_Kernel_KernelIdeal
    ∧ algebraic_KernelIdeal_ReferenceIdeal_pre_finite_weights (hKernelIdeal := hKernelIdeal) (hReferenceIdeal := hReferenceIdeal) (hPre_finite_weights := hPre_finite_weights)
-- ==== Pre_finite_weights.lean ====
abbrev S16x4096x32 : Shape := ⟨3, ![16, 4096, 32]⟩
abbrev S32x64 : Shape := ⟨2, ![32, 64]⟩
abbrev S64 : Shape := ⟨1, ![64]⟩
abbrev S64x128 : Shape := ⟨2, ![64, 128]⟩
abbrev S128 : Shape := ⟨1, ![128]⟩
abbrev S_ : Shape := ⟨0, ![]⟩

class Facts : Prop where
  bcast_S_S64x128 : S_.BroadcastsInDim S64x128 (![] : Fin 0 → Fin S64x128.rank)

variable [Facts]

def fn {F : FTy → Type} [FloatOps F] (main_arg0 : FVec F S16x4096x32 .f32) (main_arg1 : FVec F S32x64 .f32) (main_arg2 : FVec F S64 .f32) (main_arg3 : FVec F S64x128 .f32) (main_arg4 : FVec F S128 .f32) (main_arg5 : FVec F S_ .f32) : IVec S64x128 1 :=
  let main_v0 : FVec F S64x128 .f32 := Host.absf main_arg3
  let main_cst : FVec F S_ .f32 := constant S_ .f32 0x7F800000#32
  let main_v1 : FVec F S64x128 .f32 := broadcastInDim S64x128 ![] bcast_S_S64x128 main_cst
  let main_v2 : IVec S64x128 1 := cmpf .olt main_v0 main_v1
  main_v2
-- ==== Kernel.lean ====
abbrev S16x4096x32 : Shape := ⟨3, ![16, 4096, 32]⟩
abbrev S32x64 : Shape := ⟨2, ![32, 64]⟩
abbrev S64 : Shape := ⟨1, ![64]⟩
abbrev S64x128 : Shape := ⟨2, ![64, 128]⟩
abbrev S128 : Shape := ⟨1, ![128]⟩
abbrev S_ : Shape := ⟨0, ![]⟩
abbrev S4096x32 : Shape := ⟨2, ![4096, 32]⟩
abbrev S16x32x4096 : Shape := ⟨3, ![16, 32, 4096]⟩
abbrev S1x64 : Shape := ⟨2, ![1, 64]⟩
abbrev S1x128 : Shape := ⟨2, ![1, 128]⟩
abbrev S1x1 : Shape := ⟨2, ![1, 1]⟩
abbrev S16x32x128 : Shape := ⟨3, ![16, 32, 128]⟩
abbrev S8x32x4096 : Shape := ⟨3, ![8, 32, 4096]⟩
abbrev S8x32x128 : Shape := ⟨3, ![8, 32, 128]⟩
abbrev S256x4096 : Shape := ⟨2, ![256, 4096]⟩
abbrev S32x512 : Shape := ⟨2, ![32, 512]⟩
abbrev S256x512 : Shape := ⟨2, ![256, 512]⟩
abbrev S64x1 : Shape := ⟨2, ![64, 1]⟩
abbrev S512x1 : Shape := ⟨2, ![512, 1]⟩
abbrev S512x4096 : Shape := ⟨2, ![512, 4096]⟩
abbrev S512x32 : Shape := ⟨2, ![512, 32]⟩
abbrev S64x32 : Shape := ⟨2, ![64, 32]⟩
abbrev S32x128 : Shape := ⟨2, ![32, 128]⟩
abbrev S1x32x128 : Shape := ⟨3, ![1, 32, 128]⟩

abbrev nBuf : Space → Nat
  | .hbm => 12
  | .vmem => 10
  | .smem => 0
  | _ => 0

abbrev bufTy : (tb : Table) → Fin (tcTables nBuf tb) → BufTy
  | .hbm, ⟨0, _⟩ => ⟨S16x4096x32, .f32⟩
  | .hbm, ⟨1, _⟩ => ⟨S32x64, .f32⟩
  | .hbm, ⟨2, _⟩ => ⟨S64, .f32⟩
  | .hbm, ⟨3, _⟩ => ⟨S64x128, .f32⟩
  | .hbm, ⟨4, _⟩ => ⟨S128, .f32⟩
  | .hbm, ⟨5, _⟩ => ⟨S_, .f32⟩
  | .hbm, ⟨6, _⟩ => ⟨S4096x32, .f32⟩
  | .hbm, ⟨7, _⟩ => ⟨S16x32x4096, .f32⟩
  | .hbm, ⟨8, _⟩ => ⟨S1x64, .f32⟩
  | .hbm, ⟨9, _⟩ => ⟨S1x128, .f32⟩
  | .hbm, ⟨10, _⟩ => ⟨S1x1, .f32⟩
  | .hbm, ⟨11, _⟩ => ⟨S16x32x128, .f32⟩
  | .local _ .vmem, ⟨0, _⟩ => ⟨S8x32x4096, .f32⟩
  | .local _ .vmem, ⟨1, _⟩ => ⟨S8x32x4096, .f32⟩
  | .local _ .vmem, ⟨2, _⟩ => ⟨S32x64, .f32⟩
  | .local _ .vmem, ⟨3, _⟩ => ⟨S1x64, .f32⟩
  | .local _ .vmem, ⟨4, _⟩ => ⟨S64x128, .f32⟩
  | .local _ .vmem, ⟨5, _⟩ => ⟨S1x128, .f32⟩
  | .local _ .vmem, ⟨6, _⟩ => ⟨S1x1, .f32⟩
  | .local _ .vmem, ⟨7, _⟩ => ⟨S4096x32, .f32⟩
  | .local _ .vmem, ⟨8, _⟩ => ⟨S8x32x128, .f32⟩
  | .local _ .vmem, ⟨9, _⟩ => ⟨S8x32x128, .f32⟩
  | _, _ => ⟨S16x4096x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x32x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8x32x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S16x4096x32 : Shape := ⟨3, ![16, 4096, 32]⟩
abbrev S32x64 : Shape := ⟨2, ![32, 64]⟩
abbrev S64 : Shape := ⟨1, ![64]⟩
abbrev S64x128 : Shape := ⟨2, ![64, 128]⟩
abbrev S128 : Shape := ⟨1, ![128]⟩
abbrev S_ : Shape := ⟨0, ![]⟩
abbrev S16x4096x64 : Shape := ⟨3, ![16, 4096, 64]⟩
abbrev S1x1x64 : Shape := ⟨3, ![1, 1, 64]⟩
abbrev S16x4096x128 : Shape := ⟨3, ![16, 4096, 128]⟩
abbrev S1x1x128 : Shape := ⟨3, ![1, 1, 128]⟩
abbrev S4096 : Shape := ⟨1, ![4096]⟩
abbrev S4096x16x128 : Shape := ⟨3, ![4096, 16, 128]⟩
abbrev S32x16x128 : Shape := ⟨3, ![32, 16, 128]⟩
abbrev S4096x1 : Shape := ⟨2, ![4096, 1]⟩
abbrev S32 : Shape := ⟨1, ![32]⟩
abbrev S16x32x128 : Shape := ⟨3, ![16, 32, 128]⟩
abbrev S1x32x1 : Shape := ⟨3, ![1, 32, 1]⟩

abbrev nBuf : Space → Nat
  | .hbm => 64
  | .vmem => 0
  | .smem => 0
  | _ => 0

abbrev bufTy : (tb : Table) → Fin (tcTables nBuf tb) → BufTy
  | .hbm, ⟨0, _⟩ => ⟨S16x4096x32, .f32⟩
  | .hbm, ⟨1, _⟩ => ⟨S32x64, .f32⟩
  | .hbm, ⟨2, _⟩ => ⟨S64, .f32⟩
  | .hbm, ⟨3, _⟩ => ⟨S64x128, .f32⟩
  | .hbm, ⟨4, _⟩ => ⟨S128, .f32⟩
  | .hbm, ⟨5, _⟩ => ⟨S_, .f32⟩
  | .hbm, ⟨6, _⟩ => ⟨S16x4096x64, .f32⟩
  | .hbm, ⟨7, _⟩ => ⟨S1x1x64, .f32⟩
  | .hbm, ⟨8, _⟩ => ⟨S16x4096x64, .f32⟩
  | .hbm, ⟨9, _⟩ => ⟨S16x4096x64, .f32⟩
  | .hbm, ⟨10, _⟩ => ⟨S_, .f32⟩
  | .hbm, ⟨11, _⟩ => ⟨S16x4096x64, .f32⟩
  | .hbm, ⟨12, _⟩ => ⟨S16x4096x64, .f32⟩
  | .hbm, ⟨13, _⟩ => ⟨S16x4096x64, .f32⟩
  | .hbm, ⟨14, _⟩ => ⟨S_, .f32⟩
  | .hbm, ⟨15, _⟩ => ⟨S16x4096x64, .f32⟩
  | .hbm, ⟨16, _⟩ => ⟨S16x4096x64, .f32⟩
  | .hbm, ⟨17, _⟩ => ⟨S16x4096x64, .f32⟩
  | .hbm, ⟨18, _⟩ => ⟨S16x4096x64, .f32⟩
  | .hbm, ⟨19, _⟩ => ⟨S16x4096x128, .f32⟩
  | .hbm, ⟨20, _⟩ => ⟨S1x1x128, .f32⟩
  | .hbm, ⟨21, _⟩ => ⟨S16x4096x128, .f32⟩
  | .hbm, ⟨22, _⟩ => ⟨S16x4096x128, .f32⟩
  | .hbm, ⟨23, _⟩ => ⟨S4096, .f32⟩
  | .hbm, ⟨24, _⟩ => ⟨S_, .f32⟩
  | .hbm, ⟨25, _⟩ => ⟨S4096, .f32⟩
  | .hbm, ⟨26, _⟩ => ⟨S4096, .f32⟩
  | .hbm, ⟨27, _⟩ => ⟨S_, .f32⟩
  | .hbm, ⟨28, _⟩ => ⟨S4096, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S4096, .f32⟩
  | .hbm, ⟨34, _⟩ => ⟨S4096, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S4096, .i32⟩
  | .hbm, ⟨39, _⟩ => ⟨S4096, .i32⟩
  | .hbm, ⟨40, _⟩ => ⟨S_, .i32⟩
  | .hbm, ⟨41, _⟩ => ⟨S4096, .i32⟩
  | .hbm, ⟨42, _⟩ => ⟨S4096, .i32⟩
  | .hbm, ⟨43, _⟩ => ⟨S4096x16x128, .f32⟩
  | .hbm, ⟨44, _⟩ => ⟨S_, .f32⟩
  | .hbm, ⟨45, _⟩ => ⟨S32x16x128, .f32⟩
  | .hbm, ⟨46, _⟩ => ⟨S4096x1, .i32⟩
  | .hbm, ⟨47, _⟩ => ⟨S32x16x128, .f32⟩
  | .hbm, ⟨48, _⟩ => ⟨S_, .f32⟩
  | .hbm, ⟨49, _⟩ => ⟨S4096, .f32⟩
  | .hbm, ⟨50, _⟩ => ⟨S_, .f32⟩
  | .hbm, ⟨51, _⟩ => ⟨S32, .f32⟩
  | .hbm, ⟨52, _⟩ => ⟨S4096x1, .i32⟩
  | .hbm, ⟨53, _⟩ => ⟨S32, .f32⟩
  | .hbm, ⟨54, _⟩ => ⟨S16x32x128, .f32⟩
  | .hbm, ⟨55, _⟩ => ⟨S_, .f32⟩
  | .hbm, ⟨56, _⟩ => ⟨S32, .f32⟩
  | .hbm, ⟨57, _⟩ => ⟨S32, .f32⟩
  | .hbm, ⟨58, _⟩ => ⟨S1x32x1, .f32⟩
  | .hbm, ⟨59, _⟩ => ⟨S16x32x128, .f32⟩
  | .hbm, ⟨60, _⟩ => ⟨S16x32x128, .f32⟩
  | .hbm, ⟨61, _⟩ => ⟨S_, .f32⟩
  | .hbm, ⟨62, _⟩ => ⟨S16x32x128, .f32⟩
  | .hbm, ⟨63, _⟩ => ⟨S16x32x128, .f32⟩
  | _, _ => ⟨S16x4096x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c : Ref sig .tc := ⟨.hbm, 35, rfl⟩
abbrev main_c_4 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_v24 : Ref sig .tc := ⟨.hbm, 42, rfl⟩
abbrev main_v25 : Ref sig .tc := ⟨.hbm, 43, rfl⟩
abbrev main_cst_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_6 : Ref sig .tc := ⟨.hbm, 48, rfl⟩
abbrev main_v29 : Ref sig .tc := ⟨.hbm, 49, rfl⟩
abbrev main_cst_7 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_8 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩

abbrev nD : Nat := 1
abbrev τ : Topo := Topo.v7x

variable {F : FTy → Type} [FloatOps F]
-- ==== Proof.Mean.lean ====
/- The arithmetic of the claim over the extended reals: the activation never takes the value minus infinity,
   products with a real weight distribute over sums of such values, and so the mean of a segment may be taken
   before the second layer of the perceptron or after it. -/
module

public import Idealize.ShloMosaic.PureOps.Ideal.Laws

@[expose] public section

noncomputable section

namespace Cert.Proof

open Idealize.ShloMosaic

/-- The activation at `a`: half of `a` times one plus the error function at `a * c`. Both programs take for `c` the f32
    nearest to the reciprocal of the square root of two, `rootHalf` below. -/
def gelu (c a : EReal) : EReal := ((1 / 2 : ℝ) : EReal) * a * (1 + Ideal.erf (a * c))

/-- The activation is never minus infinity: at minus infinity its second factor is zero. -/
theorem gelu_ne_bot {c : ℝ} (hc : 0 < c) (a : EReal) : gelu c a ≠ ⊥ := by
  unfold gelu
  induction a with
  | bot =>
    rw [EReal.bot_mul_coe_of_pos hc, Ideal.erf_bot, show (1 : EReal) + -1 = 0 by
      rw [← EReal.coe_one, ← EReal.coe_neg, ← EReal.coe_add]; simp, mul_zero]
    exact EReal.zero_ne_bot
  | top =>
    rw [EReal.top_mul_coe_of_pos hc, Ideal.erf_top, EReal.coe_mul_top_of_pos (by norm_num),
      show (1 : EReal) + 1 = ((2 : ℝ) : EReal) by
        rw [← EReal.coe_one, ← EReal.coe_add]; norm_num, EReal.top_mul_coe_of_pos (by norm_num)]
    exact bot_ne_top.symm
  | coe r =>
    rw [← EReal.coe_mul, ← EReal.coe_mul, Ideal.erf_coe, ← EReal.coe_one, ← EReal.coe_add, ← EReal.coe_mul]
    exact EReal.coe_ne_bot _

/-- The reference's activation, written with the complementary error function of the negated argument, is `gelu`. -/
theorem gelu_of_erfc (c a : EReal) : ((1 / 2 : ℝ) : EReal) * a * Ideal.erfc (-a * c) = gelu c a := by
  unfold gelu; rw [EReal.neg_mul, Ideal.erfc_neg]

/-- A real factor distributes over a sum of two extended reals neither of which is minus infinity. -/
theorem add_mul_coe {a b : EReal} (ha : a ≠ ⊥) (hb : b ≠ ⊥) (w : ℝ) : (a + b) * w = a * w + b * w := by
  rcases lt_trichotomy w 0 with hw | rfl | hw
  · induction a with
    | bot => exact absurd rfl ha
    | top =>
      rw [EReal.top_add_of_ne_bot hb, EReal.top_mul_coe_of_neg hw, EReal.bot_add]
    | coe r =>
      induction b with
      | bot => exact absurd rfl hb
      | top => rw [EReal.add_top_of_ne_bot ha, EReal.top_mul_coe_of_neg hw, EReal.add_bot]
      | coe s => rw [← EReal.coe_add, ← EReal.coe_mul, ← EReal.coe_mul, ← EReal.coe_mul, ← EReal.coe_add, add_mul]
  · simp
  · exact EReal.right_distrib_of_nonneg_of_ne_top (by exact_mod_cast hw.le) (EReal.coe_ne_top w) a b

/-- A finite sum of extended reals none of which is minus infinity is not minus infinity. -/
theorem sum_ne_bot {ι : Type*} (s : Finset ι) (f : ι → EReal) (hf : ∀ i, f i ≠ ⊥) : ∑ i ∈ s, f i ≠ ⊥ := by
  classical
  induction s using Finset.induction_on with
  | empty => rw [Finset.sum_empty]; exact EReal.zero_ne_bot
  | insert i s hi ih =>
    rw [Finset.sum_insert hi]
    exact fun h => (EReal.add_eq_bot_iff.mp h).elim (hf i) ih

/-- A real factor distributes over a finite sum of extended reals none of which is minus infinity. -/
theorem sum_mul_coe {ι : Type*} (s : Finset ι) (f : ι → EReal) (hf : ∀ i, f i ≠ ⊥) (w : ℝ) :
    (∑ i ∈ s, f i) * w = ∑ i ∈ s, f i * w := by
  classical
  induction s using Finset.induction_on with
  | empty => simp
  | insert i s hi ih =>
    rw [Finset.sum_insert hi, Finset.sum_insert hi, add_mul_coe (hf i) (sum_ne_bot s f hf), ih]

/-- A nonnegative real factor distributes over any finite sum of extended reals. -/
theorem sum_mul_coe_of_nonneg {ι : Type*} (s : Finset ι) (f : ι → EReal) {v : ℝ} (hv : 0 ≤ v) :
    (∑ i ∈ s, f i) * v = ∑ i ∈ s, f i * v := by
  classical
  induction s using Finset.induction_on with
  | empty => simp
  | insert i s hi ih =>
    rw [Finset.sum_insert hi, Finset.sum_insert hi,
      EReal.right_distrib_of_nonneg_of_ne_top (by exact_mod_cast hv) (EReal.coe_ne_top v), ih]

/-- **The mean of a segment commutes with the second layer.** Over the 128 positions of a segment `T`, weighing each
    activation by 1/128, then applying the real weights `w` and adding the bias, is the mean over `T` of the
    layer's outputs: whatever the bias, and whatever the activations so long as none is minus infinity. -/
theorem mean_of_layer {ι κ : Type*} [Fintype κ] (T : Finset ι) (hT : T.card = 128) (g : ι → κ → EReal)
    (hg : ∀ t j, g t j ≠ ⊥) (w : κ → ℝ) (β : EReal) :
    (∑ j, (∑ t ∈ T, g t j * ((1 / 128 : ℝ) : EReal)) * w j) + β
      = (∑ t ∈ T, ((∑ j, g t j * w j) + β)) * ((1 / 128 : ℝ) : EReal) := by
  have h0 : (0 : ℝ) ≤ 1 / 128 := by norm_num
  have hβ : (128 • β) * ((1 / 128 : ℝ) : EReal) = β := by
    rw [EReal.nsmul_eq_mul, mul_comm ((128 : ℕ) : EReal), mul_assoc,
      show ((128 : ℕ) : EReal) = ((128 : ℝ) : EReal) from rfl, ← EReal.coe_mul]
    norm_num
  rw [Finset.sum_add_distrib, Finset.sum_const, hT,
    EReal.right_distrib_of_nonneg_of_ne_top (by exact_mod_cast h0) (EReal.coe_ne_top _), hβ, Finset.sum_comm,
    sum_mul_coe_of_nonneg _ _ h0]
  congr 1
  refine Finset.sum_congr rfl fun j _ => ?_
  rw [← sum_mul_coe T (fun t => g t j) (fun t => hg t j) (w j), ← sum_mul_coe_of_nonneg T (fun t => g t j) h0, mul_assoc,
    mul_comm ((1 / 128 : ℝ) : EReal), ← mul_assoc]

/-- The positions of segment `k`: 128 consecutive ones out of 4096. -/
def seg (k : Fin 32) : Finset (Fin 4096) := Finset.univ.filter fun t => t.val / 128 = k.val

/-- A segment has 128 positions. -/
theorem card_seg (k : Fin 32) : (seg k).card = 128 := by
  have h : (seg k).card = (Finset.univ : Finset (Fin 128)).card :=
    Finset.card_nbij' (fun t => ⟨t.val % 128, Nat.mod_lt _ (by norm_num)⟩)
      (fun i => ⟨128 * k.val + i.val, by have := k.isLt; have := i.isLt; omega⟩)
      (fun _ _ => Finset.mem_coe.mpr (Finset.mem_univ _))
      (fun i _ => by
        have := i.isLt
        simp only [seg, Finset.coe_filter, Finset.mem_univ, true_and, Set.mem_setOf_eq]; omega)
      (fun t ht => by
        simp only [seg, Finset.coe_filter, Finset.mem_univ, true_and, Set.mem_setOf_eq] at ht
        exact Fin.ext (by show 128 * k.val + t.val % 128 = t.val; omega))
      (fun i _ => Fin.ext (by have := i.isLt; show (128 * k.val + i.val) % 128 = i.val; omega))
  rw [h, Finset.card_univ, Fintype.card_fin]

/-- A sum over all positions, each weighed by 1/128 on segment `k` and by zero off it, is the sum over the segment. -/
theorem sum_pool (k : Fin 32) (f : Fin 4096 → EReal) :
    ∑ t, f t * (if t.val / 128 = k.val then ((1 / 128 : ℝ) : EReal) else 0)
      = ∑ t ∈ seg k, f t * ((1 / 128 : ℝ) : EReal) := by
  rw [seg, Finset.sum_filter]
  refine Finset.sum_congr rfl fun t _ => ?_
  split <;> simp

/-! ## The constants the two programs print -/

/-- The word of one half. -/
theorem ofBits_half : Ideal.ofBits .f32 0x3F000000#32 = ((1 / 2 : ℝ) : EReal) := by
  simp [Ideal.ofBits, Ideal.ieee]; rw [← EReal.coe_mul]; norm_num

/-- The f32 nearest to the reciprocal of the square root of two, as the real it is. -/
def rootHalf : ℝ := 11863283 / 16777216

/-- It is positive. -/
theorem rootHalf_pos : 0 < rootHalf := by unfold rootHalf; norm_num

/-- The word of the f32 nearest to the reciprocal of the square root of two. -/
theorem ofBits_rootHalf : Ideal.ofBits .f32 0x3F3504F3#32 = (rootHalf : EReal) := by
  simp [Ideal.ofBits, Ideal.ieee, rootHalf]; rw [← EReal.coe_mul]; norm_num

/-- The word of one. -/
theorem ofBits_one : Ideal.ofBits .f32 0x3F800000#32 = 1 := by
  simp [Ideal.ofBits, Ideal.ieee]; rw [← EReal.coe_mul, ← EReal.coe_one]; norm_num

/-- The word of 1/128, the weight of a position in its segment. -/
theorem ofBits_inv128 : Ideal.ofBits .f32 0x3C000000#32 = ((1 / 128 : ℝ) : EReal) := by
  simp [Ideal.ofBits, Ideal.ieee]; rw [← EReal.coe_mul]; norm_num

/-- The word of 4096, the number of positions. -/
theorem ofBits_4096 : Ideal.ofBits .f32 0x45800000#32 = ((4096 : ℝ) : EReal) := by
  simp [Ideal.ofBits, Ideal.ieee]; rw [← EReal.coe_mul]; norm_num

/-- The word of 32, the number of segments. -/
theorem ofBits_32 : Ideal.ofBits .f32 0x42000000#32 = ((32 : ℝ) : EReal) := by
  simp [Ideal.ofBits, Ideal.ieee]; rw [← EReal.coe_mul]; norm_num

/-- The word of plus infinity. -/
theorem ofBits_inf : Ideal.ofBits .f32 0x7F800000#32 = ⊤ := by
  simp [Ideal.ofBits, Ideal.ieee]

/-! ## The segment a position falls into -/

/-- The reference finds the segment of position `t` in floats: the floor of `(t + 1/2) / 4096 * 32`, turned into a word
    and clipped to `[0, 31]`, is `t / 128`. -/
theorem segment_of_position (t : Fin 4096) :
    IntOp.minsi 31#32 (IntOp.maxsi 0#32 (Ideal.fptosi 32 (Ideal.liftRound Int.floor
      (Ideal.div ((((BitVec.ofNat 32 t.val).toInt : ℝ) : EReal) + ((1 / 2 : ℝ) : EReal)) ((4096 : ℝ) : EReal)
        * ((32 : ℝ) : EReal))))) = BitVec.ofNat 32 (t.val / 128) := by
  have ht := t.isLt
  have e1 : (BitVec.ofNat 32 t.val).toInt = (t.val : ℤ) := by
    rw [BitVec.toInt_eq_toNat_of_lt (by rw [BitVec.toNat_ofNat]; omega), BitVec.toNat_ofNat]; omega
  have e2 : ⌊((t.val : ℝ) + 1 / 2) * (1 / 4096) * 32⌋ = ((t.val / 128 : ℕ) : ℤ) := by
    rw [Int.floor_eq_iff]
    have h1 : 128 * (t.val / 128) ≤ t.val := by omega
    have h2 : t.val + 1 ≤ 128 * (t.val / 128) + 128 := by omega
    have h1' : (128 : ℝ) * ((t.val / 128 : ℕ) : ℝ) ≤ (t.val : ℝ) := by exact_mod_cast h1
    have h2' : (t.val : ℝ) + 1 ≤ 128 * ((t.val / 128 : ℕ) : ℝ) + 128 := by exact_mod_cast h2
    rw [Int.cast_natCast]
    constructor <;> linarith
  rw [e1, Ideal.div_coe (by norm_num), ← EReal.coe_add, ← EReal.coe_mul, ← EReal.coe_mul]
  show IntOp.minsi 31#32 (IntOp.maxsi 0#32 (Ideal.fptosi 32 ((((⌊(((t.val : ℤ) : ℝ) + 1 / 2) * (1 / 4096) * 32⌋ : ℤ) : ℝ) : EReal)))) = _
  rw [Int.cast_natCast, e2, Ideal.fptosi, Ideal.toIntClamped_coe, Int.floor_intCast]
  have hq : t.val / 128 < 32 := by omega
  generalize t.val / 128 = q at hq ⊢
  rw [if_pos (by positivity)]
  interval_cases q <;> decide +kernel

end Cert.Proof

end
-- ==== Proof.Scatter.lean ====
/- The two scatters of the reference read at an index: each adds, into the entry of a segment, the updates of the 128
   positions of that segment. -/
module

public import proofs.«01_k».proof.Proof.Gen.ReferenceIdeal
public import proofs.«01_k».proof.Proof.Mean
public import Idealize.ShloMosaic.Lib.ValueIdx
public import Idealize.ShloMosaic.PureOps.Ideal.Laws

@[expose] public section

noncomputable section

namespace Cert.Proof

open Cert.ReferenceIdeal Cert.ReferenceIdeal.Gen Idealize.ShloMosaic Idealize.ShloMosaic.ValueIdx

/-- The word of a position's segment, read as a signed number, is the segment. -/
theorem segment_toInt (t : Fin 4096) : (BitVec.ofNat 32 (t.val / 128)).toInt = ((t.val / 128 : ℕ) : ℤ) := by
  have := t.isLt
  rw [BitVec.toInt_eq_toNat_of_lt (by rw [BitVec.toNat_ofNat]; omega), BitVec.toNat_ofNat]; omega

/-- The segment of a position. -/
def segOf (t : Fin 4096) : Fin 32 := ⟨t.val / 128, by have := t.isLt; omega⟩

/-- A position belongs to the segment `k` exactly when its segment is `k`. -/
theorem mem_seg (k : Fin 32) (t : Fin 4096) : t ∈ seg k ↔ segOf t = k := by
  simp only [seg, segOf, Finset.mem_filter, Finset.mem_univ, true_and, Fin.ext_iff]

/-- The row of positions' update (position, batch row, output) lands in the entry (segment, batch row, output). -/
theorem rows_land (idx : IVec S4096x1 32) (h : ∀ t : Fin 4096, idx (ix2 t (0 : Fin 1)) = BitVec.ofNat 32 (t.val / 128))
    (t : Fin 4096) (b : Fin 16) (m : Fin 128) :
    ScatterDims.resultIdx? scatter_S32x16x128_S4096x1_S4096x16x128_12_0_0_1 (ix3 t b m) idx = some (ix3 (segOf t) b m) := by
  have e : ∀ c, ScatterDims.siIdx scatter_S32x16x128_S4096x1_S4096x16x128_12_0_0_1 (ix3 t b m) c = ix2 t (0 : Fin 1) := fun c => funext fun a => Fin.ext (by
    match a with
    | ⟨0, _⟩ => rfl
    | ⟨1, _⟩ => exact Nat.lt_one_iff.mp c.isLt)
  have s0 : ScatterDims.start scatter_S32x16x128_S4096x1_S4096x16x128_12_0_0_1 (ix3 t b m) idx 0 = ((t.val / 128 : ℕ) : ℤ) := by
    unfold ScatterDims.start
    rw [dif_pos (by decide), e, h, segment_toInt]
  have s1 : ScatterDims.start scatter_S32x16x128_S4096x1_S4096x16x128_12_0_0_1 (ix3 t b m) idx 1 = 0 := dif_neg (by decide)
  have s2 : ScatterDims.start scatter_S32x16x128_S4096x1_S4096x16x128_12_0_0_1 (ix3 t b m) idx 2 = 0 := dif_neg (by decide)
  have w0 : ScatterDims.window scatter_S32x16x128_S4096x1_S4096x16x128_12_0_0_1 (ix3 t b m) 0 = 0 := dif_neg (by decide)
  have w1 : ScatterDims.window scatter_S32x16x128_S4096x1_S4096x16x128_12_0_0_1 (ix3 t b m) 1 = b.val := rfl
  have w2 : ScatterDims.window scatter_S32x16x128_S4096x1_S4096x16x128_12_0_0_1 (ix3 t b m) 2 = m.val := rfl
  have ht := t.isLt
  have hb := b.isLt
  have hm := m.isLt
  unfold ScatterDims.resultIdx?
  rw [dif_pos (fun a => by
    match a with
    | ⟨0, _⟩ => show 0 ≤ ScatterDims.start scatter_S32x16x128_S4096x1_S4096x16x128_12_0_0_1 (ix3 t b m) idx 0 + ScatterDims.window scatter_S32x16x128_S4096x1_S4096x16x128_12_0_0_1 (ix3 t b m) 0 ∧ ScatterDims.start scatter_S32x16x128_S4096x1_S4096x16x128_12_0_0_1 (ix3 t b m) idx 0 + ScatterDims.window scatter_S32x16x128_S4096x1_S4096x16x128_12_0_0_1 (ix3 t b m) 0 < ((32 : ℕ) : ℤ); rw [s0, w0]; omega
    | ⟨1, _⟩ => show 0 ≤ ScatterDims.start scatter_S32x16x128_S4096x1_S4096x16x128_12_0_0_1 (ix3 t b m) idx 1 + ScatterDims.window scatter_S32x16x128_S4096x1_S4096x16x128_12_0_0_1 (ix3 t b m) 1 ∧ ScatterDims.start scatter_S32x16x128_S4096x1_S4096x16x128_12_0_0_1 (ix3 t b m) idx 1 + ScatterDims.window scatter_S32x16x128_S4096x1_S4096x16x128_12_0_0_1 (ix3 t b m) 1 < ((16 : ℕ) : ℤ); rw [s1, w1]; omega
    | ⟨2, _⟩ => show 0 ≤ ScatterDims.start scatter_S32x16x128_S4096x1_S4096x16x128_12_0_0_1 (ix3 t b m) idx 2 + ScatterDims.window scatter_S32x16x128_S4096x1_S4096x16x128_12_0_0_1 (ix3 t b m) 2 ∧ ScatterDims.start scatter_S32x16x128_S4096x1_S4096x16x128_12_0_0_1 (ix3 t b m) idx 2 + ScatterDims.window scatter_S32x16x128_S4096x1_S4096x16x128_12_0_0_1 (ix3 t b m) 2 < ((128 : ℕ) : ℤ); rw [s2, w2]; omega)]
  refine congrArg some (funext fun a => Fin.ext ?_)
  match a with
  | ⟨0, _⟩ => show (ScatterDims.start scatter_S32x16x128_S4096x1_S4096x16x128_12_0_0_1 (ix3 t b m) idx 0 + ScatterDims.window scatter_S32x16x128_S4096x1_S4096x16x128_12_0_0_1 (ix3 t b m) 0).toNat = t.val / 128; rw [s0, w0]; omega
  | ⟨1, _⟩ => show (ScatterDims.start scatter_S32x16x128_S4096x1_S4096x16x128_12_0_0_1 (ix3 t b m) idx 1 + ScatterDims.window scatter_S32x16x128_S4096x1_S4096x16x128_12_0_0_1 (ix3 t b m) 1).toNat = b.val; rw [s1, w1]; omega
  | ⟨2, _⟩ => show (ScatterDims.start scatter_S32x16x128_S4096x1_S4096x16x128_12_0_0_1 (ix3 t b m) idx 2 + ScatterDims.window scatter_S32x16x128_S4096x1_S4096x16x128_12_0_0_1 (ix3 t b m) 2).toNat = m.val; rw [s2, w2]; omega

/-- The update of a position lands in the entry of its segment. -/
theorem ones_land (idx : IVec S4096x1 32) (h : ∀ t : Fin 4096, idx (ix2 t (0 : Fin 1)) = BitVec.ofNat 32 (t.val / 128))
    (t : Fin 4096) : ScatterDims.resultIdx? scatter_S32_S4096x1_S4096_n_0_0_1 (ix1 t) idx = some (ix1 (segOf t)) := by
  have e : ∀ c, ScatterDims.siIdx scatter_S32_S4096x1_S4096_n_0_0_1 (ix1 t) c = ix2 t (0 : Fin 1) := fun c => funext fun a => Fin.ext (by
    match a with
    | ⟨0, _⟩ => rfl
    | ⟨1, _⟩ => exact Nat.lt_one_iff.mp c.isLt)
  have s0 : ScatterDims.start scatter_S32_S4096x1_S4096_n_0_0_1 (ix1 t) idx 0 = ((t.val / 128 : ℕ) : ℤ) := by
    unfold ScatterDims.start
    rw [dif_pos (by decide), e, h, segment_toInt]
  have w0 : ScatterDims.window scatter_S32_S4096x1_S4096_n_0_0_1 (ix1 t) 0 = 0 := dif_neg (by decide)
  have ht := t.isLt
  unfold ScatterDims.resultIdx?
  rw [dif_pos (fun a => by
    match a with
    | ⟨0, _⟩ => show 0 ≤ ScatterDims.start scatter_S32_S4096x1_S4096_n_0_0_1 (ix1 t) idx 0 + ScatterDims.window scatter_S32_S4096x1_S4096_n_0_0_1 (ix1 t) 0 ∧ ScatterDims.start scatter_S32_S4096x1_S4096_n_0_0_1 (ix1 t) idx 0 + ScatterDims.window scatter_S32_S4096x1_S4096_n_0_0_1 (ix1 t) 0 < ((32 : ℕ) : ℤ); rw [s0, w0]; omega)]
  refine congrArg some (funext fun a => Fin.ext ?_)
  match a with
  | ⟨0, _⟩ => show (ScatterDims.start scatter_S32_S4096x1_S4096_n_0_0_1 (ix1 t) idx 0 + ScatterDims.window scatter_S32_S4096x1_S4096_n_0_0_1 (ix1 t) 0).toNat = t.val / 128; rw [s0, w0]; omega

/-- The landing of any update of the rows, by its coordinates. -/
theorem rows_land_at (idx : IVec S4096x1 32) (h : ∀ t : Fin 4096, idx (ix2 t (0 : Fin 1)) = BitVec.ofNat 32 (t.val / 128))
    (j : S4096x16x128.Idx) :
    ScatterDims.resultIdx? scatter_S32x16x128_S4096x1_S4096x16x128_12_0_0_1 j idx
      = some (ix3 (segOf (j 0)) (j 1 : Fin 16) (j 2 : Fin 128)) :=
  (congrArg (fun q => ScatterDims.resultIdx? scatter_S32x16x128_S4096x1_S4096x16x128_12_0_0_1 q idx) (eq_ix3 j)).trans
    (rows_land idx h (j 0) (j 1) (j 2))

/-- The landing of any update of the counts, by its coordinate. -/
theorem ones_land_at (idx : IVec S4096x1 32) (h : ∀ t : Fin 4096, idx (ix2 t (0 : Fin 1)) = BitVec.ofNat 32 (t.val / 128))
    (j : S4096.Idx) : ScatterDims.resultIdx? scatter_S32_S4096x1_S4096_n_0_0_1 j idx = some (ix1 (segOf (j 0))) :=
  (congrArg (fun q => ScatterDims.resultIdx? scatter_S32_S4096x1_S4096_n_0_0_1 q idx) (eq_ix1 j)).trans
    (ones_land idx h (j 0))

/-- **The scatter of the layer's outputs** at (segment, batch row, output): the initial value plus the updates of the
    segment's positions. -/
theorem rows_apply (x : FVec Ideal S32x16x128 .f32) (idx : IVec S4096x1 32) (upd : FVec Ideal S4096x16x128 .f32)
    (h : ∀ t : Fin 4096, idx (ix2 t (0 : Fin 1)) = BitVec.ofNat 32 (t.val / 128)) (k : Fin 32) (b : Fin 16) (m : Fin 128) :
    Host.scatterAdd scatter_S32x16x128_S4096x1_S4096x16x128_12_0_0_1 x idx upd (ix3 k b m)
      = x (ix3 k b m) + ∑ t ∈ seg k, upd (ix3 t b m) := by
  unfold Host.scatterAdd
  rw [Ideal.hostScatterAdd_def]
  refine congrArg (x (ix3 k b m) + ·) ?_
  have land : ∀ j : S4096x16x128.Idx, ScatterDims.resultIdx? scatter_S32x16x128_S4096x1_S4096x16x128_12_0_0_1 j idx
      = some (ix3 k b m) → segOf (j 0) = k ∧ j = ix3 (j 0 : Fin 4096) b m := fun j hj => by
    have hj := Option.some.inj ((rows_land_at idx h j).symm.trans hj)
    have h1 : (j 1 : Fin 16) = b := congrFun hj 1
    have h2 : (j 2 : Fin 128) = m := congrFun hj 2
    refine ⟨congrFun hj 0, ?_⟩
    rw [← h1, ← h2]
    exact eq_ix3 j
  refine Finset.sum_nbij' (fun j => (j 0 : Fin 4096)) (fun t => ix3 t b m) ?_ ?_ ?_ ?_ ?_
  · exact fun j hj => (mem_seg _ _).mpr (land j (Finset.mem_filter.mp hj).2).1
  · intro t ht
    refine Finset.mem_filter.mpr ⟨Finset.mem_univ _, (rows_land idx h t b m).trans ?_⟩
    rw [(mem_seg _ _).mp ht]
  · exact fun j hj => (land j (Finset.mem_filter.mp hj).2).2.symm
  · exact fun _ _ => rfl
  · exact fun j hj => congrArg upd (land j (Finset.mem_filter.mp hj).2).2

/-- **The scatter that counts** at a segment: the initial value plus the updates of the segment's positions. -/
theorem ones_apply (x : FVec Ideal S32 .f32) (idx : IVec S4096x1 32) (upd : FVec Ideal S4096 .f32)
    (h : ∀ t : Fin 4096, idx (ix2 t (0 : Fin 1)) = BitVec.ofNat 32 (t.val / 128)) (k : Fin 32) :
    Host.scatterAdd scatter_S32_S4096x1_S4096_n_0_0_1 x idx upd (ix1 k) = x (ix1 k) + ∑ t ∈ seg k, upd (ix1 t) := by
  unfold Host.scatterAdd
  rw [Ideal.hostScatterAdd_def]
  refine congrArg (x (ix1 k) + ·) ?_
  refine Finset.sum_nbij' (fun j => (j 0 : Fin 4096)) (fun t => ix1 t) ?_ ?_ ?_ ?_ ?_
  · exact fun j hj => (mem_seg _ _).mpr
      (congrFun (Option.some.inj ((ones_land_at idx h j).symm.trans (Finset.mem_filter.mp hj).2)) 0)
  · intro t ht
    refine Finset.mem_filter.mpr ⟨Finset.mem_univ _, (ones_land idx h t).trans ?_⟩
    rw [(mem_seg _ _).mp ht]
  · exact fun j _ => (eq_ix1 j).symm
  · exact fun _ _ => rfl
  · exact fun j _ => congrArg upd (eq_ix1 j)

end Cert.Proof

end
-- ==== Proof.Layers.lean ====
/- What the kernel body's arrays hold at an index: the block-diagonal first layer over a group of eight batch rows, the
   pooled activations, and one batch row of the result. Every statement is at the ideal values. -/
module

public import proofs.«01_k».proof.Proof.Mean
public import proofs.«01_k».proof.Proof.Gen.KernelIdeal.Skeleton
public import Idealize.ShloMosaic.Lib.Pipeline.Value
public import Idealize.ShloMosaic.Lib.ValueIdx
public import Idealize.ShloMosaic.Lib.ValueLayout
public import Idealize.ShloMosaic.Lib.MatmulPlain

@[expose] public section

noncomputable section

namespace Cert.Proof

open Idealize.ShloMosaic Idealize.ShloMosaic.ValueIdx Idealize.SL.Sem Cert.KernelIdeal Cert.KernelIdeal.Gen
open scoped BigOperators

/-- A product contracting the first axes of a K×M and a K×N matrix, onto a zero accumulator, read at `(r, c)`: the sum
    over the contracted coordinate. -/
theorem matmul_rows_apply {K M N : ℕ} (w : DotDims.WF ⟨2, ![K, M]⟩ ⟨2, ![K, N]⟩ ⟨2, ![M, N]⟩ [0] [0] [1] [1] [] [])
    (lhs : FVec Ideal ⟨2, ![K, M]⟩ .f32) (rhs : FVec Ideal ⟨2, ![K, N]⟩ .f32) (r : Fin M) (c : Fin N) :
    FloatOps.matmul (⟨[0], [0], [1], [1], [], [], w⟩ : DotDims _ _ _) none lhs rhs
        (constant (F := Ideal) ⟨2, ![M, N]⟩ .f32 0x00000000#32) (ix2 r c)
      = ∑ k : Fin K, lhs (ix2 k r) * rhs (ix2 k c) := by
  rw [Ideal.matmul_constant_zero_apply,
    ← Equiv.sum_comp (contrEquiv1 (⟨[0], [0], [1], [1], [], [], w⟩ : DotDims _ _ _) K rfl rfl).symm]
  refine Finset.sum_congr rfl fun k _ => ?_
  have hk := contrEquiv1_symm_val
    (⟨[0], [0], [1], [1], [], [], w⟩ : DotDims ⟨2, ![K, M]⟩ ⟨2, ![K, N]⟩ ⟨2, ![M, N]⟩) K rfl rfl k
  have el : (⟨[0], [0], [1], [1], [], [], w⟩ : DotDims ⟨2, ![K, M]⟩ ⟨2, ![K, N]⟩ ⟨2, ![M, N]⟩).lhsIdx (ix2 r c)
      ((contrEquiv1 _ K rfl rfl).symm k) = ix2 k r := by
    funext a; apply Fin.ext
    match a with
    | ⟨0, _⟩ => exact hk
    | ⟨1, _⟩ => rfl
  have er : (⟨[0], [0], [1], [1], [], [], w⟩ : DotDims ⟨2, ![K, M]⟩ ⟨2, ![K, N]⟩ ⟨2, ![M, N]⟩).rhsIdx (ix2 r c)
      ((contrEquiv1 _ K rfl rfl).symm k) = ix2 k c := by
    funext a; apply Fin.ext
    match a with
    | ⟨0, _⟩ => exact hk
    | ⟨1, _⟩ => rfl
  rw [el, er]

/-! ## The block-diagonal weights -/

/-- Band `n` of the block-diagonal weights: the 32×64 weights in the `n`-th of eight column blocks, zero elsewhere. -/
def band (w : FVec Ideal S32x64 .f32) (n : Fin 8) : FVec Ideal S32x512 .f32 :=
  concatenate S32x512 1 (List.ofFn fun c : Fin 8 =>
    (⟨S32x64, if c = n then w else broadcast S32x64 (Scalar.ofBits (F := Ideal) .f32 0x00000000#32)⟩ :
      (s : Shape) × (s.Idx → Ideal .f32)))
    concatenates_S32x64_S32x64_S32x64_S32x64_S32x64_S32x64_S32x64_S32x64_S32x512_d1

/-- The block-diagonal weights: the eight bands, one below another. -/
def diag (w : FVec Ideal S32x64 .f32) : FVec Ideal S256x512 .f32 :=
  concatenate S256x512 0 (List.ofFn fun n : Fin 8 => (⟨S32x512, band w n⟩ : (s : Shape) × (s.Idx → Ideal .f32)))
    concatenates_S32x512_S32x512_S32x512_S32x512_S32x512_S32x512_S32x512_S32x512_S256x512_d0

/-- Column `r` of a band holds column `r % 64` of the weights when `r` is in the band's block, and zero when not. -/
theorem band_apply (w : FVec Ideal S32x64 .f32) (n : Fin 8) (d : Fin 32) (r : Fin 512) :
    band w n (ix2 d r)
      = if r.val / 64 = n.val then w (ix2 d ⟨r.val % 64, Nat.mod_lt _ (by decide)⟩) else 0 := by
  have hr : r.val / 64 < 8 := by have := r.isLt; omega
  refine (concatenate_ofFn_apply (t := S32x512) (s₁ := S32x64) (1 : Fin 2)
    (fun c : Fin 8 => if c = n then w else broadcast S32x64 (Scalar.ofBits (F := Ideal) .f32 0x00000000#32))
    concatenates_S32x64_S32x64_S32x64_S32x64_S32x64_S32x64_S32x64_S32x64_S32x512_d1 rfl 64 rfl (ix2 d r)
    ⟨r.val / 64, hr⟩ rfl (ix2 d ⟨r.val % 64, Nat.mod_lt _ (by decide)⟩) rfl ?_).trans ?_
  · intro b hb
    match b with
    | ⟨0, _⟩ => rfl
    | ⟨1, _⟩ => exact absurd rfl hb
  · by_cases h : r.val / 64 = n.val
    · rw [if_pos h, if_pos (Fin.ext h)]
    · rw [if_neg h, if_neg fun e => h (congrArg Fin.val e)]
      exact Ideal.ofBits_zero_f32

/-- Row `q`, column `r` of the block-diagonal weights: the weights at `(q % 32, r % 64)` on the diagonal blocks, and zero
    off them. -/
theorem diag_apply (w : FVec Ideal S32x64 .f32) (q : Fin 256) (r : Fin 512) :
    diag w (ix2 q r) = if r.val / 64 = q.val / 32
      then w (ix2 ⟨q.val % 32, Nat.mod_lt _ (by decide)⟩ ⟨r.val % 64, Nat.mod_lt _ (by decide)⟩) else 0 := by
  have hq : q.val / 32 < 8 := by have := q.isLt; omega
  refine (concatenate_ofFn_apply (t := S256x512) (s₁ := S32x512) (0 : Fin 2) (band w)
    concatenates_S32x512_S32x512_S32x512_S32x512_S32x512_S32x512_S32x512_S32x512_S256x512_d0 rfl 32 rfl (ix2 q r)
    ⟨q.val / 32, hq⟩ rfl (ix2 ⟨q.val % 32, Nat.mod_lt _ (by decide)⟩ r) rfl ?_).trans (band_apply w _ _ r)
  intro b hb
  match b with
  | ⟨0, _⟩ => exact absurd rfl hb
  | ⟨1, _⟩ => rfl

/-- The eight batch rows of a block stacked into 256 rows: row `q` is feature `q % 32` of batch row `q / 32`. -/
theorem stack_apply (x : FVec Ideal S8x32x4096 .f32) (q : Fin 256) (t : Fin 4096) :
    shapeCast S256x4096 (shapeCast S8x32x4096 x shapeCasts_S8x32x4096_S8x32x4096) shapeCasts_S8x32x4096_S256x4096 (ix2 q t)
      = x (ix3 ⟨q.val / 32, by have := q.isLt; omega⟩ ⟨q.val % 32, Nat.mod_lt _ (by decide)⟩ t) := by
  refine (shapeCast_apply _ _ _ (ix3 ⟨q.val / 32, by have := q.isLt; omega⟩ ⟨q.val % 32, Nat.mod_lt _ (by decide)⟩ t)
    ?_).trans (shapeCast_apply _ _ _ _ rfl)
  rw [Shape.rowMajor_val_three, Shape.rowMajor_val_two]
  show (q.val / 32 * 32 + q.val % 32) * 4096 + t.val = q.val * 4096 + t.val
  rw [Nat.div_add_mod']

/-- The bias column: eight copies of the bias, one below another. -/
theorem bias_apply (b : FVec Ideal S1x64 .f32) (r : Fin 512) (t : Fin 4096) :
    broadcastTo S512x4096 (concatenate S512x1 0 (List.replicate 8
        (⟨S64x1, transpose S64x1 [1, 0] (shapeCast S1x64 b shapeCasts_S1x64_S1x64) transposes_S1x64_p1_0_S64x1⟩ :
          (s : Shape) × (s.Idx → Ideal .f32)))
        concatenates_S64x1_S64x1_S64x1_S64x1_S64x1_S64x1_S64x1_S64x1_S512x1_d0) broadcasts_S512x1_S512x4096 (ix2 r t)
      = b (ix2 (0 : Fin 1) ⟨r.val % 64, Nat.mod_lt _ (by decide)⟩) := by
  refine (broadcastTo_apply _ _ (ix2 r t) (ix2 r (0 : Fin 1)) ?_).trans ?_
  · intro a
    match a with
    | ⟨0, _⟩ => rfl
    | ⟨1, _⟩ => rfl
  refine (concatenate_replicate_apply (t := S512x1) (s₁ := S64x1) (0 : Fin 2) 8 _
    concatenates_S64x1_S64x1_S64x1_S64x1_S64x1_S64x1_S64x1_S64x1_S512x1_d0 rfl (ix2 r (0 : Fin 1))
    (ix2 ⟨r.val % 64, Nat.mod_lt _ (by decide)⟩ (0 : Fin 1)) rfl ?_).trans ?_
  · intro a ha
    match a with
    | ⟨0, _⟩ => exact absurd rfl ha
    | ⟨1, _⟩ => rfl
  · exact (transpose_ix2_apply _ _ _ _).trans (shapeCast_apply _ _ _ _ rfl)

/-- A product with the block-diagonal weights has the 32 terms of its own block: the other blocks multiply by zero. -/
theorem sum_diag (w : FVec Ideal S32x64 .f32) (x : FVec Ideal S8x32x4096 .f32) (r : Fin 512) (t : Fin 4096) :
    (∑ q : Fin 256, diag w (ix2 q r)
        * x (ix3 ⟨q.val / 32, by have := q.isLt; omega⟩ ⟨q.val % 32, Nat.mod_lt _ (by decide)⟩ t))
      = ∑ d : Fin 32, w (ix2 d ⟨r.val % 64, Nat.mod_lt _ (by decide)⟩)
          * x (ix3 ⟨r.val / 64, by have := r.isLt; omega⟩ d t) := by
  have hr : r.val / 64 < 8 := by have := r.isLt; omega
  rw [← Equiv.sum_comp (finProdFinEquiv : Fin 8 × Fin 32 ≃ Fin 256), Fintype.sum_prod_type,
    Finset.sum_eq_single (⟨r.val / 64, hr⟩ : Fin 8)]
  · refine Finset.sum_congr rfl fun d _ => ?_
    have h1 : (finProdFinEquiv ((⟨r.val / 64, hr⟩ : Fin 8), d) : Fin 256).val = d.val + 32 * (r.val / 64) := rfl
    have hd := d.isLt
    have h2 : (d.val + 32 * (r.val / 64)) / 32 = r.val / 64 := by omega
    have h3 : (d.val + 32 * (r.val / 64)) % 32 = d.val := by omega
    rw [diag_apply]
    simp only [h1, h2, h3, if_true]
  · intro n _ hn
    refine Finset.sum_eq_zero fun d _ => ?_
    have h1 : (finProdFinEquiv (n, d) : Fin 256).val = d.val + 32 * n.val := rfl
    have hd := d.isLt
    rw [diag_apply, if_neg, zero_mul]
    intro h
    rw [h1] at h
    exact hn (Fin.ext (by show n.val = r.val / 64; omega))
  · intro h
    exact absurd (Finset.mem_univ _) h

/-! ## The pooled activations -/

/-- The first layer at unit `j`, position `t` of batch row `g` of a block: the weights' column against the features, plus
    the bias. -/
def layer (x : FVec Ideal S8x32x4096 .f32) (w : FVec Ideal S32x64 .f32) (b : FVec Ideal S1x64 .f32)
    (g : Fin 8) (j : Fin 64) (t : Fin 4096) : EReal :=
  (∑ d : Fin 32, w (ix2 d j) * x (ix3 g d t)) + b (ix2 (0 : Fin 1) j)

/-- **The pooled activations** at row `r` (unit `r % 64` of batch row `r / 64`) and segment `k`: the activations of the
    first layer over all positions, each times the pooling weight of its position. -/
theorem pooled_apply (x : FVec Ideal S8x32x4096 .f32) (w : FVec Ideal S32x64 .f32) (b : FVec Ideal S1x64 .f32)
    (P : FVec Ideal S4096x32 .f32) (r : Fin 512) (k : Fin 32) :
    k0_pay3 (F := Ideal) x w b P (ix2 r k)
      = ∑ t : Fin 4096, gelu (rootHalf : EReal)
          (layer x w b ⟨r.val / 64, by have := r.isLt; omega⟩ ⟨r.val % 64, Nat.mod_lt _ (by decide)⟩ t)
          * P (ix2 t k) := by
  unfold k0_pay3
  refine (Ideal.matmul_plain_apply none _ _ _ r k).trans ?_
  rw [show (constant (F := Ideal) S512x32 .f32 0x00000000#32) (ix2 r k) = 0 from Ideal.ofBits_zero_f32, zero_add]
  refine Finset.sum_congr rfl fun t _ => congrArg (· * P (ix2 t k)) ?_
  have hm : (matmul dot_S256x512_S256x4096_S512x4096_0_0_1_1_n_n none (diag w)
      (shapeCast S256x4096 (shapeCast S8x32x4096 x shapeCasts_S8x32x4096_S8x32x4096) shapeCasts_S8x32x4096_S256x4096)
      (constant (F := Ideal) S512x4096 .f32 0x00000000#32)) (ix2 r t)
      = ∑ d : Fin 32, w (ix2 d ⟨r.val % 64, Nat.mod_lt _ (by decide)⟩)
          * x (ix3 ⟨r.val / 64, by have := r.isLt; omega⟩ d t) := by
    refine (matmul_rows_apply dot_S256x512_S256x4096_S512x4096_0_0_1_1_n_n_wf _ _ r t).trans ?_
    rw [← sum_diag]
    exact Finset.sum_congr rfl fun q _ => congrArg (diag w (ix2 q r) * ·) (stack_apply x q t)
  have ha := congrArg₂ (· + ·) hm (bias_apply b r t)
  have half : (Scalar.ofBits .f32 0x3F000000#32 : Ideal .f32) = ((1/2 : ℝ) : EReal) := ofBits_half
  have one : (Scalar.ofBits .f32 0x3F800000#32 : Ideal .f32) = (1 : EReal) := ofBits_one
  have root : (Scalar.ofBits .f32 0x3F3504F3#32 : Ideal .f32) = (rootHalf : EReal) := ofBits_rootHalf
  unfold gelu layer
  rw [← ha, ← half, ← one, ← root]
  rfl

/-! ## One batch row of the result -/

/-- What the body stores for the batch row whose 64 rows of the pooled activations start at row `o`. -/
def rowOf (o : Nat) (h : S512x32.Slices ![o, 0] S64x32) (A : FVec Ideal S512x32 .f32) (g : Ideal .f32)
    (w : FVec Ideal S64x128 .f32) (b : FVec Ideal S1x128 .f32) : FVec Ideal S1x32x128 .f32 :=
  shapeCast S1x32x128 (mulf (addf (matmul dot_S64x32_S64x128_S32x128_0_0_1_1_n_n none
      (extractStridedSlice S64x32 ![o, 0] A h) w (constant (F := Ideal) S32x128 .f32 0x00000000#32))
    (broadcastTo S32x128 (shapeCast S1x128 b shapeCasts_S1x128_S1x128) broadcasts_S1x128_S32x128))
    (broadcast S32x128 g)) shapeCasts_S32x128_S1x32x128

/-- A stored batch row at segment `k`, output `m`: the second layer on the row's 64 pooled activations, times the gate. -/
theorem rowOf_apply (o : Nat) (h : S512x32.Slices ![o, 0] S64x32) (A : FVec Ideal S512x32 .f32) (g : Ideal .f32)
    (w : FVec Ideal S64x128 .f32) (b : FVec Ideal S1x128 .f32) (u : Fin 1) (k : Fin 32) (m : Fin 128) :
    rowOf o h A g w b (ix3 u k m)
      = ((∑ j : Fin 64, A (ix2 ⟨o + j.val, Nat.lt_of_lt_of_le (Nat.add_lt_add_left j.isLt o) (h.2 0)⟩ k) * w (ix2 j m))
          + b (ix2 (0 : Fin 1) m)) * g := by
  unfold rowOf
  refine (shapeCast_ab_1ab_apply _ _ u k m).trans ?_
  refine congrArg (· * g) (congrArg₂ (· + ·) ?_ ?_)
  · refine (matmul_rows_apply dot_S64x32_S64x128_S32x128_0_0_1_1_n_n_wf _ _ k m).trans ?_
    exact Finset.sum_congr rfl fun j _ => congrArg (· * w (ix2 j m)) (slice2_axis0_eq o A h j k)
  · exact (broadcastTo_1b_ab_apply _ _ k m).trans (shapeCast_apply _ _ _ _ rfl)

/-- The block the body leaves, at batch row `g`, segment `k`, output `m`, as a function of the arrays it reads. -/
def blockOut (x : FVec Ideal S8x32x4096 .f32) (w1 : FVec Ideal S32x64 .f32) (b1 : FVec Ideal S1x64 .f32)
    (w2 : FVec Ideal S64x128 .f32) (b2 : FVec Ideal S1x128 .f32) (gate : FVec Ideal S1x1 .f32)
    (P : FVec Ideal S4096x32 .f32) (g : Fin 8) (k : Fin 32) (m : Fin 128) : EReal :=
  ((∑ j : Fin 64, (∑ t : Fin 4096, gelu (rootHalf : EReal) (layer x w1 b1 g j t) * P (ix2 t k)) * w2 (ix2 j m))
    + b2 (ix2 (0 : Fin 1) m)) * Ideal.tanh (gate (ix2 (0 : Fin 1) (0 : Fin 1)))

/-- Batch row `g` of a block, stored from the pooled activations of that block, is the block's result at that row. -/
theorem rowOf_pooled (x : FVec Ideal S8x32x4096 .f32) (w1 : FVec Ideal S32x64 .f32) (b1 : FVec Ideal S1x64 .f32)
    (w2 : FVec Ideal S64x128 .f32) (b2 : FVec Ideal S1x128 .f32) (gate : FVec Ideal S1x1 .f32)
    (P : FVec Ideal S4096x32 .f32) (g : Fin 8) (h : S512x32.Slices ![64 * g.val, 0] S64x32) (u : Fin 1) (k : Fin 32)
    (m : Fin 128) :
    rowOf (64 * g.val) h (k0_pay3 (F := Ideal) x w1 b1 P) (k0_pay4 (F := Ideal) gate) w2 b2 (ix3 u k m)
      = blockOut x w1 b1 w2 b2 gate P g k m := by
  rw [rowOf_apply]
  unfold blockOut
  have hg : k0_pay4 (F := Ideal) gate = Ideal.tanh (gate (ix2 (0 : Fin 1) (0 : Fin 1))) := by
    unfold k0_pay4
    exact congrArg (fun i => Ideal.tanh (gate i)) (funext fun a => Fin.ext (by
      match a with
      | ⟨0, _⟩ => rfl
      | ⟨1, _⟩ => rfl))
  rw [hg]
  refine congrArg (· * _) (congrArg (· + _) (Finset.sum_congr rfl fun j _ => congrArg (· * w2 (ix2 j m)) ?_))
  rw [pooled_apply]
  have hj := j.isLt
  have h1 : (64 * g.val + j.val) / 64 = g.val := by omega
  have h2 : (64 * g.val + j.val) % 64 = j.val := by omega
  refine Finset.sum_congr rfl fun t _ => ?_
  simp only [h1, h2]

end Cert.Proof

end
-- ==== Proof.Table.lean ====
/- The pooling table the kernel carries as a literal: 4096 rows of 32 words, row `t` holding 1/128 in column
   `t / 128` and zero elsewhere. The literal is printed in blocks of 128 words (four rows); the 32 blocks of one segment
   are the same block, so the table is read off one block per segment. -/
module

public import proofs.«01_k».proof.KernelIdeal
public import Mathlib.Tactic.IntervalCases

@[expose] public section

set_option maxRecDepth 100000

noncomputable section

namespace Cert.KernelIdeal.Table

open Cert.KernelIdeal

/-- The first block of segment `k`, read at the residue of `i` modulo its 128 words. -/
def firstBlock (k i : Nat) : BitVec 32 :=
  match k with
  | 0 => lit0t0_0 i
  | 1 => lit0t0_32 i
  | 2 => lit0t0_64 i
  | 3 => lit0t0_96 i
  | 4 => lit0t0_128 i
  | 5 => lit0t0_160 i
  | 6 => lit0t0_192 i
  | 7 => lit0t0_224 i
  | 8 => lit0t0_256 i
  | 9 => lit0t0_288 i
  | 10 => lit0t0_320 i
  | 11 => lit0t0_352 i
  | 12 => lit0t0_384 i
  | 13 => lit0t0_416 i
  | 14 => lit0t0_448 i
  | 15 => lit0t0_480 i
  | 16 => lit0t0_512 i
  | 17 => lit0t0_544 i
  | 18 => lit0t0_576 i
  | 19 => lit0t0_608 i
  | 20 => lit0t0_640 i
  | 21 => lit0t0_672 i
  | 22 => lit0t0_704 i
  | 23 => lit0t0_736 i
  | 24 => lit0t0_768 i
  | 25 => lit0t0_800 i
  | 26 => lit0t0_832 i
  | 27 => lit0t0_864 i
  | 28 => lit0t0_896 i
  | 29 => lit0t0_928 i
  | 30 => lit0t0_960 i
  | _ => lit0t0_992 i

set_option maxHeartbeats 4000000 in
/-- Word `i` of the table is the word the first block of its segment holds at the same residue. -/
theorem word_eq_firstBlock (i : Nat) (hi : i < 131072) : lit0t i = firstBlock (i / 4096) i := by
  have ha : i / 16384 < 8 := by omega
  have hb : i / 128 % 128 < 128 := Nat.mod_lt _ (by decide)
  rw [show i / 4096 = 4 * (i / 16384) + i / 128 % 128 / 32 by omega]
  unfold lit0t
  generalize i / 16384 = a at ha ⊢
  interval_cases a <;>
    (simp only [lit0t1_0, lit0t1_1, lit0t1_2, lit0t1_3, lit0t1_4, lit0t1_5, lit0t1_6, lit0t1_7]
     generalize i / 128 % 128 = b at hb ⊢
     interval_cases b <;> rfl)

/-- A block is read at a residue: reading it at `i` or at `i % 128` is the same. -/
theorem firstBlock_mod (k i : Nat) : firstBlock k i = firstBlock k (i % 128) := by
  delta firstBlock lit0t0_0 lit0t0_32 lit0t0_64 lit0t0_96 lit0t0_128 lit0t0_160 lit0t0_192 lit0t0_224 lit0t0_256
    lit0t0_288 lit0t0_320 lit0t0_352 lit0t0_384 lit0t0_416 lit0t0_448 lit0t0_480 lit0t0_512 lit0t0_544 lit0t0_576
    lit0t0_608 lit0t0_640 lit0t0_672 lit0t0_704 lit0t0_736 lit0t0_768 lit0t0_800 lit0t0_832 lit0t0_864 lit0t0_896
    lit0t0_928 lit0t0_960 lit0t0_992
  beta_reduce
  rw [Nat.mod_mod]

/-- The first block of segment `k` holds 1/128 in column `k` of each of its four rows and zero elsewhere. -/
theorem firstBlock_word : ∀ k : Fin 32, ∀ r : Fin 128,
    firstBlock k.val r.val = if k.val = r.val % 32 then 0x3C000000#32 else 0x00000000#32 := by
  decide +kernel

/-- **The pooling table**: word `i` is 1/128 when its column `i % 32` is the segment `i / 32 / 128` of its row, and
    zero when not. -/
theorem word (i : Nat) (hi : i < 131072) :
    lit0t i = if i / 32 / 128 = i % 32 then 0x3C000000#32 else 0x00000000#32 := by
  have h := firstBlock_word ⟨i / 4096, by omega⟩ ⟨i % 128, Nat.mod_lt _ (by decide)⟩
  have hk : i / 4096 = i / 32 / 128 := by omega
  have hr : i % 128 % 32 = i % 32 := by omega
  rw [word_eq_firstBlock i hi, firstBlock_mod, h]
  simp only [hk, hr]

end Cert.KernelIdeal.Table

end
-- ==== Proof.Array.lean ====
/- What the kernel's result array holds after the run, at every index, as a function of the arguments: the body's eight
   stored rows are one function of the block's inputs, the inputs' blocks are read off the arguments, and the two blocks
   cover the array. -/
module

public import proofs.«01_k».proof.Proof.Layers
public import proofs.«01_k».proof.Proof.Table
public import proofs.«01_k».proof.Proof.Gen.KernelIdeal.Value
public import Idealize.ShloMosaic.Lib.StableHlo.Run

@[expose] public section

noncomputable section

namespace Cert.Proof

open Idealize.ShloMosaic Idealize.ShloMosaic.ValueIdx Idealize.ShloMosaic.TcCoe Idealize.SL.Sem
open Cert.KernelIdeal Cert.KernelIdeal.Gen
open Idealize.ShloMosaic.Pipeline (Dat)
open scoped BigOperators

/-! ## The block the body leaves -/

/-- A rank-2 offset of zeros is the zero offset. -/
theorem zero_offset2 : (![0, 0] : Fin 2 → Nat) = fun _ => 0 := funext fun a => by fin_cases a <;> rfl

/-- A rank-3 offset of zeros is the zero offset. -/
theorem zero_offset3 : (![0, 0, 0] : Fin 3 → Nat) = fun _ => 0 := funext fun a => by fin_cases a <;> rfl

/-- The block's result as the contents of the output's buffer. -/
def blockFn (x : FVec Ideal S8x32x4096 .f32) (w1 : FVec Ideal S32x64 .f32) (b1 : FVec Ideal S1x64 .f32)
    (w2 : FVec Ideal S64x128 .f32) (b2 : FVec Ideal S1x128 .f32) (gate : FVec Ideal S1x1 .f32)
    (P : FVec Ideal S4096x32 .f32) : Vec Ideal S8x32x128 .f32 :=
  fun y => (blockOut x w1 b1 w2 b2 gate P (y 0) (y 1) (y 2) : EReal)

/-- Storing batch row `g` of a block at row `g` of the output buffer puts each element where the block's result has it. -/
theorem stored_row (x : FVec Ideal S8x32x4096 .f32) (w1 : FVec Ideal S32x64 .f32) (b1 : FVec Ideal S1x64 .f32)
    (w2 : FVec Ideal S64x128 .f32) (b2 : FVec Ideal S1x128 .f32) (gate : FVec Ideal S1x1 .f32)
    (P : FVec Ideal S4096x32 .f32) (g : Fin 8) (h : S512x32.Slices ![64 * g.val, 0] S64x32)
    (inb : ∀ a, ![g.val, 0, 0] a + S1x32x128.size a ≤ S8x32x128.size a) (z : S1x32x128.Idx) :
    rowOf (64 * g.val) h (k0_pay3 (F := Ideal) x w1 b1 P) (k0_pay4 (F := Ideal) gate) w2 b2 z
      = blockFn x w1 b1 w2 b2 gate P
          ((Rect.unit (s := S8x32x128) ![g.val, 0, 0] S1x32x128.size inb).emb z) := by
  obtain ⟨u, k, m, rfl⟩ : ∃ u k m, z = ix3 u k m := ⟨z 0, z 1, z 2, eq_ix3 z⟩
  have he : (Rect.unit (s := S8x32x128) ![g.val, 0, 0] S1x32x128.size inb).emb (ix3 u k m) = ix3 g k m := by
    funext a; apply Fin.ext
    rw [Rect.emb_apply]
    have hu : u.val = 0 := by omega
    match a with
    | ⟨0, _⟩ => show g.val + 1 * u.val = g.val; omega
    | ⟨1, _⟩ => show 0 + 1 * k.val = k.val; omega
    | ⟨2, _⟩ => show 0 + 1 * m.val = m.val; omega
  rw [he, rowOf_pooled]
  rfl

/-- **The block the body leaves**: its eight stored rows are one function of the arrays the body reads. -/
theorem out_eq (x : FVec Ideal S8x32x4096 .f32) (w1 : FVec Ideal S32x64 .f32) (b1 : FVec Ideal S1x64 .f32)
    (w2 : FVec Ideal S64x128 .f32) (b2 : FVec Ideal S1x128 .f32) (gate : FVec Ideal S1x1 .f32)
    (P : FVec Ideal S4096x32 .f32) :
    out0_7 (F := Ideal) x w1 b1 w2 b2 gate P = blockFn x w1 b1 w2 b2 gate P := by
  funext y
  unfold out0_7 k0_pay14
  simp only [View.ld_unit_zero (S := S8x32x4096) zero_offset3, View.ld_unit_zero (S := S32x64) zero_offset2,
    View.ld_unit_zero (S := S1x64) zero_offset2, View.ld_unit_zero (S := S4096x32) zero_offset2,
    View.ld_unit_zero (S := S1x1) zero_offset2, View.ld_unit_zero (S := S64x128) zero_offset2,
    View.ld_unit_zero (S := S1x128) zero_offset2]
  refine View.canon_apply_of_pieces
    (blockFn x w1 b1 w2 b2 gate P) _ ?_ y (cover0_7 _ _ _ _ _ _ _ _ y)
  intro p hp z
  simp only [List.mem_cons, List.not_mem_nil, or_false] at hp
  rcases hp with rfl | rfl | rfl | rfl | rfl | rfl | rfl | rfl
  · exact stored_row x w1 b1 w2 b2 gate P 7 slices_S512x32_o448_0_S64x32 inb_S8x32x128_S1x32x128_7_0_0 z
  · exact stored_row x w1 b1 w2 b2 gate P 6 slices_S512x32_o384_0_S64x32 inb_S8x32x128_S1x32x128_6_0_0 z
  · exact stored_row x w1 b1 w2 b2 gate P 5 slices_S512x32_o320_0_S64x32 inb_S8x32x128_S1x32x128_5_0_0 z
  · exact stored_row x w1 b1 w2 b2 gate P 4 slices_S512x32_o256_0_S64x32 inb_S8x32x128_S1x32x128_4_0_0 z
  · exact stored_row x w1 b1 w2 b2 gate P 3 slices_S512x32_o192_0_S64x32 inb_S8x32x128_S1x32x128_3_0_0 z
  · exact stored_row x w1 b1 w2 b2 gate P 2 slices_S512x32_o128_0_S64x32 inb_S8x32x128_S1x32x128_2_0_0 z
  · exact stored_row x w1 b1 w2 b2 gate P 1 slices_S512x32_o64_0_S64x32 inb_S8x32x128_S1x32x128_1_0_0 z
  · exact stored_row x w1 b1 w2 b2 gate P 0 slices_S512x32_o0_0_S64x32 inb_S8x32x128_S1x32x128_0_0_0 z

/-! ## The arrays the region finds -/

section Arrays
variable (m : (ℓ : Loc nD τ sig) → Buf (Elt Ideal) ℓ)

/-- The region finds the features with the feature axis before the position axis. -/
theorem found_features (c : Dev nD) : (V m c main_v0 : FVec Ideal S16x32x4096 .f32)
    = transpose S16x32x4096 [0, 2, 1] (m ((c : Thread nD τ).loc main_arg0)) transposes_S16x4096x32_S16x32x4096_0_2_1 := by
  unfold V; after_results

/-- The region finds the first bias as a one-row matrix. -/
theorem found_bias1 (c : Dev nD) : (V m c main_v1 : FVec Ideal S1x64 .f32)
    = shapeCast S1x64 (m ((c : Thread nD τ).loc main_arg2)) shapeCasts_S64_S1x64 := by
  unfold V; after_results; rfl

/-- The region finds the second bias as a one-row matrix. -/
theorem found_bias2 (c : Dev nD) : (V m c main_v2 : FVec Ideal S1x128 .f32)
    = shapeCast S1x128 (m ((c : Thread nD τ).loc main_arg4)) shapeCasts_S128_S1x128 := by
  unfold V; after_results; rfl

/-- The region finds the gate as a one-element matrix. -/
theorem found_gate (c : Dev nD) : (V m c main_v3 : FVec Ideal S1x1 .f32)
    = shapeCast S1x1 (m ((c : Thread nD τ).loc main_arg5)) shapeCasts_S_S1x1 := by
  unfold V; after_results; rfl

/-- The region finds the pooling table as the literal has it. -/
theorem found_table (c : Dev nD) : (V m c main_cst : FVec Ideal S4096x32 .f32)
    = fun i => FloatOps.ofBits (F := Ideal) .f32 (lit0 (S4096x32.rowMajor i)) := by
  unfold V; after_results; rfl

/-! ## The inputs' blocks -/

/-- A window whose block is its whole array has block index zero on every axis at both points. -/
theorem whole_index1 : ∀ t : Fin grid0.N, ∀ a, win0_1.index t a = 0 := by decide +kernel
/-- The same of the first bias's window. -/
theorem whole_index2 : ∀ t : Fin grid0.N, ∀ a, win0_2.index t a = 0 := by decide +kernel
/-- The same of the second weights' window. -/
theorem whole_index3 : ∀ t : Fin grid0.N, ∀ a, win0_3.index t a = 0 := by decide +kernel
/-- The same of the second bias's window. -/
theorem whole_index4 : ∀ t : Fin grid0.N, ∀ a, win0_4.index t a = 0 := by decide +kernel
/-- The same of the gate's window. -/
theorem whole_index5 : ∀ t : Fin grid0.N, ∀ a, win0_5.index t a = 0 := by decide +kernel
/-- The same of the pooling table's window. -/
theorem whole_index6 : ∀ t : Fin grid0.N, ∀ a, win0_6.index t a = 0 := by decide +kernel
/-- The features' block moves along the batch axis with the point. -/
theorem features_index : ∀ t : Fin grid0.N, win0_0.index t 0 = t.val ∧ win0_0.index t 1 = 0 ∧ win0_0.index t 2 = 0 := by
  decide +kernel
/-- The result's block moves along the batch axis with the point. -/
theorem result_index : ∀ t : Fin grid0.N, win0_7.index t 0 = t.val ∧ win0_7.index t 1 = 0 ∧ win0_7.index t 2 = 0 := by
  decide +kernel

/-- A whole-array window's block offsets are zero. -/
theorem zero_offsets {G : Pipeline.Grid} (w : Pipeline.Window sig G) (t : Fin G.N) (h : ∀ a, w.index t a = 0)
    (size : Fin w.shape.rank → Nat) : (fun a => w.index t a * size a) = fun _ => 0 :=
  funext fun a => by rw [h a, Nat.zero_mul]

/-- The first weights' block is the array. -/
theorem block_weights1 (c : Dev nD) (t : Fin cfg0.N) : (iblk m c 1 t : FVec Ideal S32x64 .f32) = V m c main_arg1 :=
  Memref.read_access_unit_zero (Elt Ideal) main_arg1 (zero_offsets win0_1 t (whole_index1 t) _) _ (V m c main_arg1)
/-- The first bias's block is the array. -/
theorem block_bias1 (c : Dev nD) (t : Fin cfg0.N) : (iblk m c 2 t : FVec Ideal S1x64 .f32) = V m c main_v1 :=
  Memref.read_access_unit_zero (Elt Ideal) main_v1 (zero_offsets win0_2 t (whole_index2 t) _) _ (V m c main_v1)
/-- The second weights' block is the array. -/
theorem block_weights2 (c : Dev nD) (t : Fin cfg0.N) : (iblk m c 3 t : FVec Ideal S64x128 .f32) = V m c main_arg3 :=
  Memref.read_access_unit_zero (Elt Ideal) main_arg3 (zero_offsets win0_3 t (whole_index3 t) _) _ (V m c main_arg3)
/-- The second bias's block is the array. -/
theorem block_bias2 (c : Dev nD) (t : Fin cfg0.N) : (iblk m c 4 t : FVec Ideal S1x128 .f32) = V m c main_v2 :=
  Memref.read_access_unit_zero (Elt Ideal) main_v2 (zero_offsets win0_4 t (whole_index4 t) _) _ (V m c main_v2)
/-- The gate's block is the array. -/
theorem block_gate (c : Dev nD) (t : Fin cfg0.N) : (iblk m c 5 t : FVec Ideal S1x1 .f32) = V m c main_v3 :=
  Memref.read_access_unit_zero (Elt Ideal) main_v3 (zero_offsets win0_5 t (whole_index5 t) _) _ (V m c main_v3)
/-- The pooling table's block is the array. -/
theorem block_table (c : Dev nD) (t : Fin cfg0.N) : (iblk m c 6 t : FVec Ideal S4096x32 .f32) = V m c main_cst :=
  Memref.read_access_unit_zero (Elt Ideal) main_cst (zero_offsets win0_6 t (whole_index6 t) _) _ (V m c main_cst)

/-- Batch row `g` of the features' block at point `t` is batch row `8 * t + g` of the argument. -/
theorem block_features (c : Dev nD) (t : Fin cfg0.N) (g : Fin 8) (d : Fin 32) (p : Fin 4096) (b : Fin 16)
    (hb : b.val = 8 * t.val + g.val) :
    (iblk m c 0 t : FVec Ideal S8x32x4096 .f32) (ix3 g d p)
      = (m ((c : Thread nD τ).loc main_arg0) : FVec Ideal S16x4096x32 .f32) (ix3 b p d) := by
  obtain ⟨h0, h1, h2⟩ := features_index t
  have he : ((cfg0.win 0).blk t).view.emb (ix3 g d p) = (ix3 b d p : S16x32x4096.Idx) := by
    funext a; apply Fin.ext
    match a with
    | ⟨0, _⟩ => show win0_0.index t 0 * 8 + 1 * g.val = b.val; omega
    | ⟨1, _⟩ => show win0_0.index t 1 * 32 + 1 * d.val = d.val; omega
    | ⟨2, _⟩ => show win0_0.index t 2 * 4096 + 1 * p.val = p.val; omega
  show (V m c main_v0 : FVec Ideal S16x32x4096 .f32) (((cfg0.win 0).blk t).view.emb (ix3 g d p)) = _
  rw [he, found_features]
  exact transpose_ix3_021_apply _ _ b d p

/-- The pooling table at position `p`, segment `k`: 1/128 when the position is in the segment, and zero when not. -/
theorem table_apply (c : Dev nD) (p : Fin 4096) (k : Fin 32) :
    (V m c main_cst : FVec Ideal S4096x32 .f32) (ix2 p k) = if p.val / 128 = k.val then ((1/128 : ℝ) : EReal) else 0 := by
  rw [found_table]
  have hv : (S4096x32.rowMajor (ix2 p k)).val = p.val * 32 + k.val := Shape.rowMajor_val_two _
  have hp := p.isLt
  have hk := k.isLt
  have hw : lit0 (S4096x32.rowMajor (ix2 p k)) = if p.val / 128 = k.val then 0x3C000000#32 else 0x00000000#32 := by
    show lit0t (S4096x32.rowMajor (ix2 p k)).val = _
    rw [hv, Table.word _ (by omega), show (p.val * 32 + k.val) / 32 = p.val by omega,
      show (p.val * 32 + k.val) % 32 = k.val by omega]
  show Ideal.ofBits .f32 (lit0 (S4096x32.rowMajor (ix2 p k))) = _
  rw [hw]
  split
  · exact ofBits_inv128
  · exact Ideal.ofBits_zero_f32

/-! ## The result array -/

/-- The first layer of the kernel's function at batch row `b`, unit `j`, position `t`. -/
def hidden (X : FVec Ideal S16x4096x32 .f32) (w1 : FVec Ideal S32x64 .f32) (b1 : FVec Ideal S64 .f32)
    (b : Fin 16) (j : Fin 64) (t : Fin 4096) : EReal :=
  (∑ d : Fin 32, X (ix3 b t d) * w1 (ix2 d j)) + b1 (ix1 j)

/-- **The kernel's function**: the activations averaged over each segment, the second layer on the averages, the gate. -/
def kernelOut (X : FVec Ideal S16x4096x32 .f32) (w1 : FVec Ideal S32x64 .f32) (b1 : FVec Ideal S64 .f32)
    (w2 : FVec Ideal S64x128 .f32) (b2 : FVec Ideal S128 .f32) (gate : FVec Ideal S_ .f32) : Vec Ideal S16x32x128 .f32 :=
  fun y => (((∑ j : Fin 64, (∑ t ∈ seg (y 1), gelu (rootHalf : EReal) (hidden X w1 b1 (y 0) j t)
      * ((1/128 : ℝ) : EReal)) * w2 (ix2 j (y 2))) + b2 (ix1 (y 2))) * Ideal.tanh (gate ix0) : EReal)

/-- A block's result at a batch row is the kernel's function at the batch row the block's place in the array gives. -/
theorem block_result (c : Dev nD) (t : Fin cfg0.N) (g : Fin 8) (k : Fin 32) (o : Fin 128) (b : Fin 16)
    (hb : b.val = 8 * t.val + g.val) :
    blockFn (iblk m c 0 t) (iblk m c 1 t) (iblk m c 2 t) (iblk m c 3 t) (iblk m c 4 t) (iblk m c 5 t) (iblk m c 6 t)
        (ix3 g k o)
      = kernelOut (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) (ix3 b k o) := by
  rw [block_weights1, block_bias1, block_weights2, block_bias2, block_gate, block_table, V_main_arg1, V_main_arg3,
    found_bias1, found_bias2, found_gate]
  have hlayer : ∀ (j : Fin 64) (p : Fin 4096),
      layer (iblk m c 0 t) (m ((c : Thread nD τ).loc main_arg1))
          (shapeCast S1x64 (m ((c : Thread nD τ).loc main_arg2)) shapeCasts_S64_S1x64) g j p
        = hidden (m ((c : Thread nD τ).loc main_arg0)) (m ((c : Thread nD τ).loc main_arg1))
            (m ((c : Thread nD τ).loc main_arg2)) b j p := by
    intro j p
    refine congrArg₂ (· + ·) (Finset.sum_congr rfl fun d _ => ?_) (shapeCast_a_1a_apply _ _ _ _)
    rw [block_features m c t g d p b hb]
    exact mul_comm _ _
  have hgate : shapeCast S1x1 (m ((c : Thread nD τ).loc main_arg5) : FVec Ideal S_ .f32) shapeCasts_S_S1x1
      (ix2 (0 : Fin 1) (0 : Fin 1)) = (m ((c : Thread nD τ).loc main_arg5) : FVec Ideal S_ .f32) ix0 :=
    shapeCast_apply _ _ _ ix0 (by
      have h0 := (S_.rowMajor ix0).isLt
      have hn : S_.numel = 1 := by decide
      rw [Shape.rowMajor_val_two]
      show (S_.rowMajor ix0).val = 0 * 1 + 0
      omega)
  show ((∑ j : Fin 64, (∑ p : Fin 4096, _ * _) * _) + _) * Ideal.tanh _ = _
  unfold kernelOut
  refine congrArg₂ (· * ·) (congrArg₂ (· + ·) (Finset.sum_congr rfl fun j _ => congrArg (· * _) ?_)
    (shapeCast_a_1a_apply _ _ _ _)) (congrArg Ideal.tanh hgate)
  refine (Finset.sum_congr rfl fun p _ => ?_).trans
    (sum_pool k fun p => gelu (rootHalf : EReal) (hidden (m ((c : Thread nD τ).loc main_arg0))
      (m ((c : Thread nD τ).loc main_arg1)) (m ((c : Thread nD τ).loc main_arg2)) b j p))
  exact congrArg₂ (· * ·) (congrArg _ (hlayer j p)) (table_apply m c p k)

/-- Where element `(g, k, o)` of the result's block at point `t` sits in the array. -/
theorem result_emb (t : Fin cfg0.N) (g : Fin 8) (k : Fin 32) (o : Fin 128) (b : Fin 16)
    (hb : b.val = 8 * t.val + g.val) :
    ((cfg0.win 7).blk t).view.emb (ix3 g k o) = (ix3 b k o : S16x32x128.Idx) := by
  obtain ⟨h0, h1, h2⟩ := result_index t
  funext a; apply Fin.ext
  match a with
  | ⟨0, _⟩ => show win0_7.index t 0 * 8 + 1 * g.val = b.val; omega
  | ⟨1, _⟩ => show win0_7.index t 1 * 32 + 1 * k.val = k.val; omega
  | ⟨2, _⟩ => show win0_7.index t 2 * 128 + 1 * o.val = o.val; omega

/-- **The kernel's result array** after the run is the kernel's function of the arguments as launched. -/
theorem result_array (c : Dev nD) : (dats m 0 c).arrAt 7 cfg0.N
    = kernelOut (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5)) := by
  have hN : cfg0.N = 2 := by decide +kernel
  refine (dats m 0 c).arrAt_eq_of_cover 7 _ (fun t _ => ?_) (fun i => ?_)
  · rw [Value.flushed7, out_eq]
    funext z
    obtain ⟨g, k, o, rfl⟩ : ∃ (g : Fin 8) (k : Fin 32) (o : Fin 128), z = ix3 g k o := ⟨z 0, z 1, z 2, eq_ix3 z⟩
    have ht : t.val < 2 := lt_of_lt_of_eq t.isLt hN
    have hg := g.isLt
    have hb : 8 * t.val + g.val < 16 := by omega
    refine (block_result m c t g k o ⟨8 * t.val + g.val, hb⟩ rfl).trans ?_
    exact congrArg (kernelOut _ _ _ _ _ _) (result_emb t g k o ⟨8 * t.val + g.val, hb⟩ rfl).symm
  · obtain ⟨b, k, o, rfl⟩ : ∃ (b : Fin 16) (k : Fin 32) (o : Fin 128), i = ix3 b k o := ⟨i 0, i 1, i 2, eq_ix3 i⟩
    have hb := b.isLt
    have ht : b.val / 8 < cfg0.N := lt_of_lt_of_eq (by omega : b.val / 8 < 2) hN.symm
    refine ⟨⟨b.val / 8, ht⟩, flush0_7 _, ?_⟩
    have h := ((cfg0.win 7).blk (⟨b.val / 8, ht⟩ : Fin cfg0.N)).view.emb_mem_set
      (ix3 (⟨b.val % 8, Nat.mod_lt _ (by decide)⟩ : Fin 8) k o)
    rwa [result_emb ⟨b.val / 8, ht⟩ ⟨b.val % 8, Nat.mod_lt _ (by decide)⟩ k o b
      (by show b.val = 8 * (b.val / 8) + b.val % 8; omega)] at h

end Arrays

end Cert.Proof

end
-- ==== Proof.RefValue.lean ====
/- The reference's result at an index, and its equality with the kernel's when the second layer's weights are real. -/
module

public import proofs.«01_k».proof.Proof.Gen.ReferenceIdeal.Read
public import proofs.«01_k».proof.Proof.Scatter
public import proofs.«01_k».proof.Proof.Array

@[expose] public section

noncomputable section

namespace Cert.Proof

open Cert.ReferenceIdeal Cert.ReferenceIdeal.Gen Cert.ReferenceIdeal.Read Idealize.ShloMosaic Idealize.ShloMosaic.ValueIdx

/-- The reference's segment word at position `t` is `t / 128`. -/
theorem ref_segment (t : Fin 4096) : val_main_v24 (F := Ideal) (ix1 t) = BitVec.ofNat 32 (t.val / 128) := by
  rw [val_main_v24_apply, val_main_call0_v4_apply, val_main_call0_v3_apply, val_main_c_4_apply, val_main_call0_v2_apply,
    val_main_call0_v1_apply, val_main_call0_v0_apply, val_main_c_apply, val_main_v23_apply, val_main_v22_apply,
    val_main_v21_apply, val_main_v20_apply, val_main_cst_3_apply, val_main_v19_apply, val_main_v18_apply,
    val_main_cst_2_apply, val_main_v17_apply, val_main_v16_apply, val_main_cst_1_apply]
  have h := segment_of_position t
  rw [← ofBits_half, ← ofBits_4096, ← ofBits_32] at h
  exact h

/-- The segment words the scatter of the layer's outputs reads. -/
theorem ref_rows_segment (t : Fin 4096) : val_main_v27 (F := Ideal) (ix2 t (0 : Fin 1)) = BitVec.ofNat 32 (t.val / 128) := by
  rw [val_main_v27_apply]
  exact (congrArg (val_main_v24 (F := Ideal)) (eq_ix1 _)).trans (ref_segment t)

/-- The segment words the counting scatter reads. -/
theorem ref_ones_segment (t : Fin 4096) : val_main_v31 (F := Ideal) (ix2 t (0 : Fin 1)) = BitVec.ofNat 32 (t.val / 128) := by
  rw [val_main_v31_apply]
  exact (congrArg (val_main_v24 (F := Ideal)) (eq_ix1 _)).trans (ref_segment t)

/-- The reference counts 128 positions in every segment, so it divides by 128. -/
theorem ref_count (k : Fin 32) : val_main_v35 (F := Ideal) (ix1 k) = ((128 : ℝ) : EReal) := by
  have h1 : ∀ t : Fin 4096, val_main_v29 (F := Ideal) (ix1 t) = (1 : EReal) := fun t => by
    rw [val_main_v29_apply, val_main_cst_6_apply]; exact ofBits_one
  have h0 : val_main_v30 (F := Ideal) (ix1 k) = (0 : EReal) := by
    rw [val_main_v30_apply, val_main_cst_7_apply]; exact Ideal.ofBits_zero_f32
  have hs : val_main_v32 (F := Ideal) (ix1 k) = ((128 : ℝ) : EReal) := by
    unfold val_main_v32
    rw [ones_apply _ _ _ ref_ones_segment k, h0, zero_add, Finset.sum_congr rfl fun t _ => h1 t, Finset.sum_const,
      card_seg, EReal.nsmul_eq_mul, mul_one]
    rfl
  rw [val_main_v35_apply, val_main_v34_apply, val_main_cst_8_apply, hs]
  have hone : (FloatOps.ofBits .f32 0x3F800000#32 : Ideal .f32) = ((1 : ℝ) : EReal) := ofBits_one
  rw [hone]
  exact max_eq_left (EReal.coe_le_coe_iff.mpr (by norm_num))

/-- The reference's activation at (batch row, position, unit). -/
theorem ref_gelu (X : FVec Ideal S16x4096x32 .f32) (w1 : FVec Ideal S32x64 .f32) (b1 : FVec Ideal S64 .f32) (b : Fin 16)
    (t : Fin 4096) (j : Fin 64) :
    val_main_v10 (F := Ideal) X w1 b1 (ix3 b t j) = gelu (rootHalf : EReal) (hidden X w1 b1 b j t) := by
  have hl : val_main_v3 (F := Ideal) X w1 b1 (ix3 b t j) = hidden X w1 b1 b j t := by
    rw [val_main_v3_apply, val_main_v0_apply, val_main_v2_apply, val_main_v1_apply]
    unfold hidden
    refine congrArg₂ (· + ·) (Finset.sum_congr rfl fun d _ => congrArg₂ (· * ·) (congrArg X ?_) (congrArg w1 ?_))
      (congrArg b1 ?_)
    · exact eq_ix3 _
    · exact eq_ix2 _
    · exact eq_ix1 _
  rw [val_main_v10_apply, val_main_v9_apply, val_main_v8_apply, val_main_v7_apply, val_main_cst_0_apply,
    val_main_v6_apply, val_main_v5_apply, val_main_v4_apply, val_main_cst_apply, hl, ← gelu_of_erfc, ← ofBits_half,
    ← ofBits_rootHalf]
  rfl

/-- The reference's second layer at (batch row, position, output). -/
theorem ref_layer (X : FVec Ideal S16x4096x32 .f32) (w1 : FVec Ideal S32x64 .f32) (b1 : FVec Ideal S64 .f32)
    (w2 : FVec Ideal S64x128 .f32) (b2 : FVec Ideal S128 .f32) (b : Fin 16) (t : Fin 4096) (m : Fin 128) :
    val_main_v14 (F := Ideal) X w1 b1 w2 b2 (ix3 b t m)
      = (∑ j : Fin 64, gelu (rootHalf : EReal) (hidden X w1 b1 b j t) * w2 (ix2 j m)) + b2 (ix1 m) := by
  rw [val_main_v14_apply, val_main_v11_apply, val_main_v13_apply, val_main_v12_apply]
  refine congrArg₂ (· + ·) (Finset.sum_congr rfl fun j _ => congrArg₂ (· * ·) ?_ (congrArg w2 (eq_ix2 _)))
    (congrArg b2 (eq_ix1 _))
  exact (congrArg (val_main_v10 (F := Ideal) X w1 b1) (eq_ix3 _)).trans (ref_gelu X w1 b1 b t j)

/-- The reference's sums at (segment, batch row, output): the second layer's outputs summed over the segment. -/
theorem ref_sums (X : FVec Ideal S16x4096x32 .f32) (w1 : FVec Ideal S32x64 .f32) (b1 : FVec Ideal S64 .f32)
    (w2 : FVec Ideal S64x128 .f32) (b2 : FVec Ideal S128 .f32) (k : Fin 32) (b : Fin 16) (m : Fin 128) :
    val_main_v28 (F := Ideal) X w1 b1 w2 b2 (ix3 k b m)
      = ∑ t ∈ seg k, ((∑ j : Fin 64, gelu (rootHalf : EReal) (hidden X w1 b1 b j t) * w2 (ix2 j m)) + b2 (ix1 m)) := by
  have h0 : val_main_v26 (F := Ideal) (ix3 k b m) = (0 : EReal) := by
    rw [val_main_v26_apply, val_main_cst_5_apply]; exact Ideal.ofBits_zero_f32
  unfold val_main_v28
  rw [rows_apply _ _ _ ref_rows_segment k b m, h0, zero_add]
  refine Finset.sum_congr rfl fun t _ => ?_
  rw [val_main_v25_apply]
  exact (congrArg (val_main_v14 (F := Ideal) X w1 b1 w2 b2) (eq_ix3 _)).trans (ref_layer X w1 b1 w2 b2 b t m)

/-- **The reference's result** at (batch row, segment, output): the mean of the second layer over the segment, times the
    gate. -/
theorem ref_apply (X : FVec Ideal S16x4096x32 .f32) (w1 : FVec Ideal S32x64 .f32) (b1 : FVec Ideal S64 .f32)
    (w2 : FVec Ideal S64x128 .f32) (b2 : FVec Ideal S128 .f32) (gate : FVec Ideal S_ .f32) (b : Fin 16) (k : Fin 32)
    (m : Fin 128) :
    val_main_v41 (F := Ideal) X w1 b1 w2 b2 gate (ix3 b k m)
      = Ideal.tanh (gate ix0)
          * ((∑ t ∈ seg k, ((∑ j : Fin 64, gelu (rootHalf : EReal) (hidden X w1 b1 b j t) * w2 (ix2 j m)) + b2 (ix1 m)))
            * ((1 / 128 : ℝ) : EReal)) := by
  have hc : val_main_v37 (F := Ideal) (ix3 b k m) = ((128 : ℝ) : EReal) := by
    rw [val_main_v37_apply, val_main_v36_apply]
    exact (congrArg (val_main_v35 (F := Ideal)) (eq_ix1 _)).trans (ref_count k)
  have hn : val_main_v33 (F := Ideal) X w1 b1 w2 b2 (ix3 b k m)
      = ∑ t ∈ seg k, ((∑ j : Fin 64, gelu (rootHalf : EReal) (hidden X w1 b1 b j t) * w2 (ix2 j m)) + b2 (ix1 m)) := by
    rw [val_main_v33_apply]
    exact (congrArg (val_main_v28 (F := Ideal) X w1 b1 w2 b2) (eq_ix3 _)).trans (ref_sums X w1 b1 w2 b2 k b m)
  rw [val_main_v41_apply, val_main_v40_apply, val_main_v39_apply, val_main_v38_apply, hc, hn, Ideal.hostDivf_def,
    Ideal.div_coe (by norm_num)]
  exact congrArg (fun i => Ideal.tanh (gate i) * _) (eq_ix0 _)

/-- **The two results are equal** when every weight of the second layer is a real: the kernel's mean before the second
    layer is the reference's mean after it. -/
theorem kernel_eq_reference (X : FVec Ideal S16x4096x32 .f32) (w1 : FVec Ideal S32x64 .f32) (b1 : FVec Ideal S64 .f32)
    (w2 : FVec Ideal S64x128 .f32) (b2 : FVec Ideal S128 .f32) (gate : FVec Ideal S_ .f32) (w : S64x128.Idx → ℝ)
    (hw : ∀ i, w2 i = (w i : EReal)) :
    val_main_v41 (F := Ideal) X w1 b1 w2 b2 gate = kernelOut X w1 b1 w2 b2 gate := by
  funext y
  refine (congrArg (val_main_v41 (F := Ideal) X w1 b1 w2 b2 gate) (eq_ix3 y)).trans ((ref_apply X w1 b1 w2 b2 gate (y 0)
    (y 1) (y 2)).trans ?_)
  unfold kernelOut
  rw [mul_comm]
  refine congrArg (· * Ideal.tanh (gate ix0)) ?_
  simp only [hw]
  exact (mean_of_layer (seg (y 1)) (card_seg _) (fun t j => gelu (rootHalf : EReal) (hidden X w1 b1 (y 0) j t))
    (fun _ _ => gelu_ne_bot rootHalf_pos _) (fun j => w (ix2 j (y 2))) (b2 (ix1 (y 2)))).symm

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.RefValue
public import Idealize.ShloMosaic.Adequacy
public import Idealize.ShloMosaic.Init

@[expose] public section

noncomputable section

namespace Cert.Proof

open Idealize.ShloMosaic Idealize.SL.Sem

/-- The facts the precondition states: a scalar spreads over the weights' shape. -/
theorem finite_weights_facts : Cert.Pre_finite_weights.Facts := ⟨by decide⟩

/-- An extended real whose absolute value is below plus infinity is a real. -/
theorem real_of_abs_lt {x : EReal} (h : Ideal.cmp .olt (max x (-x)) ⊤ = 1#1) : x = ((x.toReal : ℝ) : EReal) := by
  have hlt : max x (-x) < ⊤ := by
    by_contra hn
    have h0 : Ideal.cmp .olt (max x (-x)) ⊤ = 0#1 := by simp [Ideal.cmp, hn]
    exact absurd (h0.symm.trans h) (by decide)
  refine (EReal.coe_toReal (fun e => ?_) (fun e => ?_)).symm
  · rw [e] at hlt; exact absurd hlt (by simp)
  · rw [e] at hlt; exact absurd hlt (by simp)

/-- Under the precondition every weight of the second layer is a real. -/
theorem real_weights (m : (ℓ : Loc Cert.KernelIdeal.nD Cert.KernelIdeal.τ Cert.KernelIdeal.sig) → Buf (Elt Ideal) ℓ)
    (h : Cert.Pre_KernelIdeal_finite_weights (hPre_finite_weights := finite_weights_facts) m) (c : Dev Cert.KernelIdeal.nD)
    (i : Cert.KernelIdeal.S64x128.Idx) :
    (m ((c.tc : Thread Cert.KernelIdeal.nD Cert.KernelIdeal.τ).loc Cert.KernelIdeal.main_arg3) i : EReal)
      = (((m ((c.tc : Thread Cert.KernelIdeal.nD Cert.KernelIdeal.τ).loc Cert.KernelIdeal.main_arg3) i : EReal).toReal : ℝ)
          : EReal) := by
  have hi := congrFun (h c) i
  refine real_of_abs_lt ?_
  rw [← ofBits_inf]
  exact hi

/-- The reference runs to its end with its arguments unchanged and every counter at zero: it declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- **The value claim**: with finite weights in the second layer, the kernel and the reference end with equal results. -/
theorem value : Cert.algebraic_KernelIdeal_ReferenceIdeal_pre_finite_weights
    (hKernelIdeal := Cert.KernelIdeal.Gen.facts) (hReferenceIdeal := Cert.ReferenceIdeal.Gen.facts)
    (hPre_finite_weights := finite_weights_facts) := by
  intro m g m' g' hpre hagree
  refine ⟨fun c => kernelOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono (fun r h c => ⟨(h c).1.trans (result_array m c), (h c).2⟩)
      (Cert.KernelIdeal.Value.run_blocks (F := Ideal) m g)
  · refine (θ_run Cert.ReferenceIdeal.defs _ _).mono (fun r h c => ⟨(h c).1.trans ?_, (h c).2⟩)
      (Cert.ReferenceIdeal.Value.run (F := Ideal) m' g')
    obtain ⟨a0, a1, a2, a3, a4, a5⟩ := hagree c
    rw [a0, a1, a2, a3, a4, a5]
    exact (Cert.ReferenceIdeal.Read.val_main_v41_eq _ _ _ _ _ _).trans
      (kernel_eq_reference _ _ _ _ _ _ _ (real_weights m hpre c))

/-- **The certificate.** The three frames, the idealization, and the value claim. -/
theorem claim : Cert.Claim :=
  ⟨Cert.Kernel.Gen.facts, Cert.KernelIdeal.Gen.facts, Cert.ReferenceIdeal.Gen.facts, finite_weights_facts,
    fun m ρ _ => Cert.Kernel.Gen.frame m ρ,
    fun m ρ _ => Cert.KernelIdeal.Gen.frame m ρ,
    fun m ρ _ => Cert.KernelIdeal.Gen.frame m ρ,
    frame_reference,
    fun m ρ _ => frame_reference m ρ trivial,
    trivial,
    value⟩

end Cert.Proof

end
